-- ==== Defs.lean ====
def Pre_Kernel [hPre_ids_ok : Cert.Pre_ids_ok.Facts] (m : (ℓ : Loc Cert.Kernel.nD Cert.Kernel.τ Cert.Kernel.sig) → Buf (Elt Bits) ℓ) : Prop :=
  ∀ c : Dev Cert.Kernel.nD,
    (Cert.Pre_ids_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_ok : Cert.Pre_ids_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ids_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_ok [hPre_ids_ok : Cert.Pre_ids_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_ok : Cert.Pre_ids_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_ok : Cert.Pre_ids_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_ok [hReferenceIdeal : Cert.ReferenceIdeal.Facts] [hPre_ids_ok : Cert.Pre_ids_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_ok : Cert.Pre_ids_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_ok : Cert.Pre_ids_ok.Facts),
    quiescent_Kernel (hKernel := hKernel) (hPre_ids_ok := hPre_ids_ok)
    ∧ quiescent_KernelIdeal (hKernelIdeal := hKernelIdeal) (hPre_ids_ok := hPre_ids_ok)
    ∧ quiescent_ReferenceIdeal (hReferenceIdeal := hReferenceIdeal)
    ∧ quiescent_ReferenceIdeal_pre_ids_ok (hReferenceIdeal := hReferenceIdeal) (hPre_ids_ok := hPre_ids_ok)
    ∧ preserves_Kernel_KernelIdeal
    ∧ algebraic_KernelIdeal_ReferenceIdeal (hKernelIdeal := hKernelIdeal) (hReferenceIdeal := hReferenceIdeal) (hPre_ids_ok := hPre_ids_ok)
-- ==== Pre_ids_ok.lean ====
abbrev S2x512x262144 : Shape := ⟨3, ![2, 512, 262144]⟩
abbrev S2x512x32 : Shape := ⟨3, ![2, 512, 32]⟩
abbrev S2x512x640 : Shape := ⟨3, ![2, 512, 640]⟩
abbrev S2x512 : Shape := ⟨2, ![2, 512]⟩
abbrev S1024x640 : Shape := ⟨2, ![1024, 640]⟩
abbrev S1024 : Shape := ⟨1, ![1024]⟩
abbrev S_ : Shape := ⟨0, ![]⟩
abbrev S1023 : Shape := ⟨1, ![1023]⟩

class Facts : Prop where
  bcast_S_S1024 : S_.BroadcastsInDim S1024 (![] : Fin 0 → Fin S1024.rank)
  reducesTo_S1024_S_d0 : S1024.ReducesTo [0] S_
  h_S_ : 0 < S_.numel
  slices_S1024_S1023_0 : S1024.Slices ![0] S1023
  slices_S1024_S1023_1 : S1024.Slices ![1] S1023
  reducesTo_S1023_S_d0 : S1023.ReducesTo [0] S_

variable [Facts]

def fn {F : FTy → Type} [FloatOps F] (main_arg0 : FVec F S2x512x262144 .fp8e5m2) (main_arg1 : FVec F S2x512x32 .f32) (main_arg2 : FVec F S2x512x640 .fp8e4m3) (main_arg3 : FVec F S2x512 .f32) (main_arg4 : FVec F S1024x640 .fp8e5m2) (main_arg5 : FVec F S1024 .f32) (main_arg6 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg6 main_v0
  let main_c_0 : IVec S_ 1 := constantI S_ 1 1#1
  let main_v2 : IVec S_ 1 := (fun x v => Host.reduce IntOp.andi x v reducesTo_S1024_S_d0 h_S_) main_v1 main_c_0
  let main_v3 : IVec S1023 32 := (extractStridedSlice S1023 ![0] · slices_S1024_S1023_0) main_arg6
  let main_v4 : IVec S1023 32 := (extractStridedSlice S1023 ![1] · slices_S1024_S1023_1) main_arg6
  let main_v5 : IVec S1023 1 := cmpi .sle main_v3 main_v4
  let main_c_1 : IVec S_ 1 := constantI S_ 1 1#1
  let main_v6 : IVec S_ 1 := (fun x v => Host.reduce IntOp.andi x v reducesTo_S1023_S_d0 h_S_) main_v5 main_c_1
  let main_v7 : IVec S_ 1 := andi main_v2 main_v6
  main_v7
-- ==== Kernel.lean ====
abbrev S2x512x262144 : Shape := ⟨3, ![2, 512, 262144]⟩
abbrev S2x512x32 : Shape := ⟨3, ![2, 512, 32]⟩
abbrev S2x512x640 : Shape := ⟨3, ![2, 512, 640]⟩
abbrev S2x512 : Shape := ⟨2, ![2, 512]⟩
abbrev S1024x640 : Shape := ⟨2, ![1024, 640]⟩
abbrev S1024 : Shape := ⟨1, ![1024]⟩
abbrev S1024x32 : Shape := ⟨2, ![1024, 32]⟩
abbrev S1x1024 : Shape := ⟨2, ![1, 1024]⟩
abbrev S1024x262144 : Shape := ⟨2, ![1024, 262144]⟩
abbrev S262144x640 : Shape := ⟨2, ![262144, 640]⟩
abbrev S1024x2048 : Shape := ⟨2, ![1024, 2048]⟩
abbrev S2048x640 : Shape := ⟨2, ![2048, 640]⟩
abbrev S640x1024 : Shape := ⟨2, ![640, 1024]⟩
abbrev S32x1024 : Shape := ⟨2, ![32, 1024]⟩
abbrev S1 : Shape := ⟨1, ![1]⟩
abbrev S1024x512 : Shape := ⟨2, ![1024, 512]⟩
abbrev S640x512 : Shape := ⟨2, ![640, 512]⟩
abbrev S512x640 : Shape := ⟨2, ![512, 640]⟩
abbrev S1x640 : Shape := ⟨2, ![1, 640]⟩

abbrev nBuf : Space → Nat
  | .hbm => 12
  | .vmem => 11
  | .smem => 3
  | _ => 0

abbrev bufTy : (tb : Table) → Fin (tcTables nBuf tb) → BufTy
  | .hbm, ⟨0, _⟩ => ⟨S2x512x262144, .fp8e5m2⟩
  | .hbm, ⟨1, _⟩ => ⟨S2x512x32, .f32⟩
  | .hbm, ⟨2, _⟩ => ⟨S2x512x640, .fp8e4m3⟩
  | .hbm, ⟨3, _⟩ => ⟨S2x512, .f32⟩
  | .hbm, ⟨4, _⟩ => ⟨S1024x640, .fp8e5m2⟩
  | .hbm, ⟨5, _⟩ => ⟨S1024, .f32⟩
  | .hbm, ⟨6, _⟩ => ⟨S1024, .i32⟩
  | .hbm, ⟨7, _⟩ => ⟨S1024x32, .f32⟩
  | .hbm, ⟨8, _⟩ => ⟨S1024x640, .fp8e4m3⟩
  | .hbm, ⟨9, _⟩ => ⟨S1x1024, .f32⟩
  | .hbm, ⟨10, _⟩ => ⟨S1024x262144, .fp8e5m2⟩
  | .hbm, ⟨11, _⟩ => ⟨S262144x640, .f32⟩
  | .local _ .vmem, ⟨0, _⟩ => ⟨S1024x32, .f32⟩
  | .local _ .vmem, ⟨1, _⟩ => ⟨S1024x640, .fp8e4m3⟩
  | .local _ .vmem, ⟨2, _⟩ => ⟨S1x1024, .f32⟩
  | .local _ .vmem, ⟨3, _⟩ => ⟨S1024x640, .fp8e5m2⟩
  | .local _ .vmem, ⟨4, _⟩ => ⟨S1024x2048, .fp8e5m2⟩
  | .local _ .vmem, ⟨5, _⟩ => ⟨S1024x2048, .fp8e5m2⟩
  | .local _ .vmem, ⟨6, _⟩ => ⟨S2048x640, .f32⟩
  | .local _ .vmem, ⟨7, _⟩ => ⟨S2048x640, .f32⟩
  | .local _ .vmem, ⟨8, _⟩ => ⟨S640x1024, .bf16⟩
  | .local _ .vmem, ⟨9, _⟩ => ⟨S32x1024, .f32⟩
  | .local _ .vmem, ⟨10, _⟩ => ⟨S1024x640, .f32⟩
  | .local _ .smem, ⟨0, _⟩ => ⟨S1024, .i32⟩
  | .local _ .smem, ⟨1, _⟩ => ⟨S1024, .f32⟩
  | .local _ .smem, ⟨2, _⟩ => ⟨S1, .i32⟩
  | _, _ => ⟨S2x512x262144, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_scratch3 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def k0_off1 (i : grid0.Coords) : Fin 2 → Nat :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .slt arg0 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg0 c4_i32
  let c0_i32_5 : BitVec 32 := 0#32
  let v16 : BitVec 1 := Scalar.cmpi .ne v15 c0_i32_5
  let v17 : BitVec 1 := Scalar.andi v14 v16
  let v3 : BitVec 32 := Scalar.divsi arg0 c4_i32
  let c1_i32 : BitVec 32 := 1#32
  let v18 : BitVec 32 := Scalar.subi v3 c1_i32
  let v19 : BitVec 32 := Scalar.select v17 v18 v3
  let v20 : Index := Scalar.indexCast v19
  let c0 : Index := 0#32
  ![v20.toNat, 0]
def k0_off2 (arg13 : BitVec 32) : Fin 1 → Nat :=
  let c1023_i32 : BitVec 32 := 1023#32
  let v51 : BitVec 32 := Scalar.minsi arg13 c1023_i32
  let v52 : Index := Scalar.indexCast v51
  ![v52.toNat]

def k0_chk1 (arg13 : BitVec 32) : Prop :=
  (∀ a, (k0_off2 arg13) a + S1.size a ≤ S1024.size a)
theorem k0_off2_inb : ∀ (arg13 : BitVec 32) (k0_hw1 : k0_chk1 arg13), ∀ a, (k0_off2 arg13) a + S1.size a ≤ S1024.size a := fun arg13 k0_hw1 => k0_hw1

def k0_off3 (arg13 : BitVec 32) : Fin 1 → Nat :=
  let v50 : Index := Scalar.indexCast arg13
  ![v50.toNat]

def k0_off4 (i : grid0.Coords) (v51 : BitVec 32) : Fin 2 → Nat :=
  let arg0 : BitVec 32 := BitVec.ofNat 32 (i 0).val
  let c2048_i32 : BitVec 32 := 2048#32
  let v46 : BitVec 32 := Scalar.muli arg0 c2048_i32
  let v52 : BitVec 32 := Scalar.subi v51 v46
  let v53 : Index := Scalar.indexCast v52
  let c0_26 : Index := 0#32
  ![v53.toNat, 0]

def k0_chk3 (i : grid0.Coords) (v51 : BitVec 32) : Prop :=
  (∀ a, (k0_off4 i v51) a + S1x640.size a ≤ S2048x640.size a)
theorem k0_off4_inb : ∀ (i : grid0.Coords) (v51 : BitVec 32) (k0_hw3 : k0_chk3 i v51), ∀ a, (k0_off4 i v51) a + S1x640.size a ≤ S2048x640.size a := fun i v51 k0_hw3 => k0_hw3

def k0_off5 (arg13 : BitVec 32) : Fin 2 → Nat :=
  let v56 : Index := Scalar.indexCast arg13
  let c0_27 : Index := 0#32
  ![v56.toNat, 0]
def k0_off6 (arg13 : BitVec 32) : Fin 1 → Nat :=
  let v58 : Index := Scalar.indexCast arg13
  ![v58.toNat]

def k0_chk2 (arg13 : BitVec 32) : Prop :=
  (∀ a, (k0_off3 arg13) a + S1.size a ≤ S1024.size a) ∧
  (∀ a, (k0_off5 arg13) a + S1x640.size a ≤ S1024x640.size a) ∧
  (∀ a, (k0_off6 arg13) a + S1.size a ≤ S1024.size a)
theorem k0_off3_inb : ∀ (arg13 : BitVec 32) (k0_hw2 : k0_chk2 arg13), ∀ a, (k0_off3 arg13) a + S1.size a ≤ S1024.size a := fun arg13 k0_hw2 => k0_hw2.1
theorem k0_off5_inb : ∀ (arg13 : BitVec 32) (k0_hw2 : k0_chk2 arg13), ∀ a, (k0_off5 arg13) a + S1x640.size a ≤ S1024x640.size a := fun arg13 k0_hw2 => k0_hw2.2.1
theorem k0_off6_inb : ∀ (arg13 : BitVec 32) (k0_hw2 : k0_chk2 arg13), ∀ a, (k0_off6 arg13) a + S1.size a ≤ S1024.size a := fun arg13 k0_hw2 => k0_hw2.2.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x640 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x512x262144 : Shape := ⟨3, ![2, 512, 262144]⟩
abbrev S2x512x32 : Shape := ⟨3, ![2, 512, 32]⟩
abbrev S2x512x640 : Shape := ⟨3, ![2, 512, 640]⟩
abbrev S2x512 : Shape := ⟨2, ![2, 512]⟩
abbrev S1024x640 : Shape := ⟨2, ![1024, 640]⟩
abbrev S1024 : Shape := ⟨1, ![1024]⟩
abbrev S2x512x32x8192 : Shape := ⟨4, ![2, 512, 32, 8192]⟩
abbrev S2x512x32x1 : Shape := ⟨4, ![2, 512, 32, 1]⟩
abbrev S2x512x1 : Shape := ⟨3, ![2, 512, 1]⟩
abbrev S262144x640 : Shape := ⟨2, ![262144, 640]⟩
abbrev S1024x1 : Shape := ⟨2, ![1024, 1]⟩
abbrev S_ : Shape := ⟨0, ![]⟩

abbrev nBuf : Space → Nat
  | .hbm => 29
  | .vmem => 6
  | .smem => 0
  | _ => 0

abbrev bufTy : (tb : Table) → Fin (tcTables nBuf tb) → BufTy
  | .hbm, ⟨0, _⟩ => ⟨S2x512x262144, .fp8e5m2⟩
  | .hbm, ⟨1, _⟩ => ⟨S2x512x32, .f32⟩
  | .hbm, ⟨2, _⟩ => ⟨S2x512x640, .fp8e4m3⟩
  | .hbm, ⟨3, _⟩ => ⟨S2x512, .f32⟩
  | .hbm, ⟨4, _⟩ => ⟨S1024x640, .fp8e5m2⟩
  | .hbm, ⟨5, _⟩ => ⟨S1024, .f32⟩
  | .hbm, ⟨6, _⟩ => ⟨S1024, .i32⟩
  | .hbm, ⟨7, _⟩ => ⟨S2x512x262144, .bf16⟩
  | .hbm, ⟨8, _⟩ => ⟨S2x512x640, .bf16⟩
  | .hbm, ⟨9, _⟩ => ⟨S1024x640, .f32⟩
  | .hbm, ⟨10, _⟩ => ⟨S2x512x32x8192, .bf16⟩
  | .hbm, ⟨11, _⟩ => ⟨S2x512x32, .bf16⟩
  | .hbm, ⟨12, _⟩ => ⟨S2x512x32x1, .bf16⟩
  | .hbm, ⟨13, _⟩ => ⟨S2x512x32x8192, .bf16⟩
  | .hbm, ⟨14, _⟩ => ⟨S2x512x32x8192, .bf16⟩
  | .hbm, ⟨15, _⟩ => ⟨S2x512x262144, .bf16⟩
  | .hbm, ⟨16, _⟩ => ⟨S2x512, .bf16⟩
  | .hbm, ⟨17, _⟩ => ⟨S2x512x1, .bf16⟩
  | .hbm, ⟨18, _⟩ => ⟨S2x512x640, .bf16⟩
  | .hbm, ⟨19, _⟩ => ⟨S2x512x640, .bf16⟩
  | .hbm, ⟨20, _⟩ => ⟨S262144x640, .f32⟩
  | .hbm, ⟨21, _⟩ => ⟨S1024x1, .f32⟩
  | .hbm, ⟨22, _⟩ => ⟨S1024x640, .f32⟩
  | .hbm, ⟨23, _⟩ => ⟨S1024x640, .f32⟩
  | .hbm, ⟨24, _⟩ => ⟨S_, .f32⟩
  | .hbm, ⟨25, _⟩ => ⟨S262144x640, .f32⟩
  | .hbm, ⟨26, _⟩ => ⟨S1024x1, .i32⟩
  | .hbm, ⟨27, _⟩ => ⟨S262144x640, .f32⟩
  | .hbm, ⟨28, _⟩ => ⟨S262144x640, .f32⟩
  | .local _ .vmem, ⟨0, _⟩ => ⟨S2x512x262144, .fp8e5m2⟩
  | .local _ .vmem, ⟨1, _⟩ => ⟨S2x512x640, .fp8e4m3⟩
  | .local _ .vmem, ⟨2, _⟩ => ⟨S1024x640, .fp8e5m2⟩
  | .local _ .vmem, ⟨3, _⟩ => ⟨S2x512x262144, .bf16⟩
  | .local _ .vmem, ⟨4, _⟩ => ⟨S2x512x640, .bf16⟩
  | .local _ .vmem, ⟨5, _⟩ => ⟨S1024x640, .f32⟩
  | _, _ => ⟨S2x512x262144, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x512x262144 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x640 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x640 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x262144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.K.Kit.lean ====
/-
  What the launch of the kernel is stated over: the host operations before the region, each window's block at a point, the
  staging and scratch memrefs, and the unchanged arguments from the pipeline's post.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The unchanged arguments from the run -/

/-- A run to the pipeline's post leaves every argument array as launched, for any proof data whose arrays are the
    region-entry contents. -/
theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by show ∀ w, (spec0 w).arr.view.ref ≠ main_arg0; decide))).trans (V_main_arg0 m c),
      ((h c).2 main_arg1 (Pipeline.mem_restRefs_of main_arg1 (by decide) (by show ∀ w, (spec0 w).arr.view.ref ≠ main_arg1; decide))).trans (V_main_arg1 m c),
      ((h c).2 main_arg2 (Pipeline.mem_restRefs_of main_arg2 (by decide) (by show ∀ w, (spec0 w).arr.view.ref ≠ main_arg2; decide))).trans (V_main_arg2 m c),
      ((h c).2 main_arg3 (Pipeline.mem_restRefs_of main_arg3 (by decide) (by show ∀ w, (spec0 w).arr.view.ref ≠ main_arg3; decide))).trans (V_main_arg3 m c),
      ((h c).1 5).trans (((dats 0 c).arrAt_in 5 rfl _).trans ((hA c 5).trans (V_main_arg4 m c))),
      ((h c).1 1).trans (((dats 0 c).arrAt_in 1 rfl _).trans ((hA c 1).trans (V_main_arg5 m c))),
      ((h c).1 0).trans (((dats 0 c).arrAt_in 0 rfl _).trans ((hA c 0).trans (V_main_arg6 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin (cfg0 (F := F)).N, cond0_0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [cond0_0, e0]
    word_cmp
   : ∀ t : Fin grid0.N, cond0_0 (grid0.coords t) ↔ t.val % 128 = 0)

/-! ## The kernel body on any staging memrefs: a subtype the run finds -/

/-- Each window's current staging memref at point `t`, spelled as the pipeline passes it (`bodyAt0`), and its wholeness. -/
abbrev ms0_0 (t : Fin (cfg0 (F := F)).N) : Memref sig .tc .smem S1024 .i32 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .smem S1024 .f32 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1024x32 .f32 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1024x640 .fp8e4m3 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x1024 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S1024x640 .fp8e5m2 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .vmem S1024x2048 .fp8e5m2 := win0_6.stage ((cfg0 (F := F)).slots t 6)
abbrev hs0_6 (t : Fin (cfg0 (F := F)).N) : (ms0_6 t).IsWhole := hstage0_6 (((cfg0 (F := F)).slots t 6).cast nbuf0_6)
abbrev ms0_7 (t : Fin (cfg0 (F := F)).N) : Memref sig .tc .vmem S2048x640 .f32 := win0_7.stage ((cfg0 (F := F)).slots t 7)
abbrev hs0_7 (t : Fin (cfg0 (F := F)).N) : (ms0_7 t).IsWhole := hstage0_7 (((cfg0 (F := F)).slots t 7).cast nbuf0_7)

/-- The scratch operands: whole scoped buffers of the kernel's own, passed beside the windows. -/
abbrev scM0_0 : Memref sig .tc .vmem S640x1024 .bf16 := Memref.whole cc0_scratch0
abbrev scM0_1 : Memref sig .tc .vmem S32x1024 .f32 := Memref.whole cc0_scratch1
abbrev scM0_2 : Memref sig .tc .vmem S1024x640 .f32 := Memref.whole cc0_scratch2
abbrev scM0_3 : Memref sig .tc .smem S1 .i32 := Memref.whole cc0_scratch3
/-- The scratch `arg12` the kernel carries between points, as a view: what it holds is stated through it. -/
abbrev VS0_3 : View sig .tc .smem S1 .i32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.Counting.lean ====
/-
  Counting a sorted list of 1024 naturals: `cnt f v` is how many of them lie below `v`, and entry `j` lies below `v` exactly
  when `j` is below that count.
-/
module

public import Idealize.ShloMosaic.Lib.WordCmp

@[expose] public section

namespace Cert.Proof.Counting

/-- The first 1024 values of `f` do not descend. -/
def Sorted (f : ℕ → ℕ) : Prop := ∀ j, j + 1 < 1024 → f j ≤ f (j + 1)

/-- How many of the first 1024 values of `f` are below `v`. -/
def cnt (f : ℕ → ℕ) (v : ℕ) : ℕ := ((Finset.range 1024).filter (fun j => f j < v)).card

theorem Sorted.le {f : ℕ → ℕ} (h : Sorted f) {i j : ℕ} (hij : i ≤ j) (hj : j < 1024) : f i ≤ f j := by
  induction j with
  | zero => rw [Nat.le_zero.mp hij]
  | succ j ih =>
    rcases Nat.lt_or_ge i (j + 1) with hlt | hge
    · exact (ih (Nat.le_of_lt_succ hlt) (by omega)).trans (h j hj)
    · rw [Nat.le_antisymm hij hge]

theorem cnt_le (f : ℕ → ℕ) (v : ℕ) : cnt f v ≤ 1024 := by
  have h := Finset.card_filter_le (Finset.range 1024) (fun j => f j < v)
  rwa [Finset.card_range] at h

theorem cnt_zero (f : ℕ → ℕ) : cnt f 0 = 0 := by
  simp [cnt]

theorem cnt_mono (f : ℕ → ℕ) {v w : ℕ} (h : v ≤ w) : cnt f v ≤ cnt f w :=
  Finset.card_le_card fun j hj => by
    rw [Finset.mem_filter] at hj ⊢
    exact ⟨hj.1, by omega⟩

/-- Entry `j` is below `v` exactly when `j` is below the count. -/
theorem lt_cnt_iff {f : ℕ → ℕ} (h : Sorted f) {j : ℕ} (hj : j < 1024) (v : ℕ) : j < cnt f v ↔ f j < v := by
  constructor
  · intro hc
    by_contra hv
    have hs : (Finset.range 1024).filter (fun j => f j < v) ⊆ Finset.range j := fun i hi => by
      rw [Finset.mem_filter, Finset.mem_range] at hi
      rw [Finset.mem_range]
      by_contra hij
      have := h.le (Nat.le_of_not_lt hij) hi.1
      omega
    have := Finset.card_le_card hs
    rw [Finset.card_range] at this
    unfold cnt at hc; omega
  · intro hv
    have hs : Finset.range (j + 1) ⊆ (Finset.range 1024).filter (fun j => f j < v) := fun i hi => by
      rw [Finset.mem_range] at hi
      rw [Finset.mem_filter, Finset.mem_range]
      have := h.le (Nat.le_of_lt_succ hi) hj
      omega
    have := Finset.card_le_card hs
    rw [Finset.card_range] at this
    unfold cnt; omega

end Cert.Proof.Counting
-- ==== Proof.K.Words.lean ====
/-
  The words of the kernel's row loop: the counter, the loop's test, and the offsets of the rows it adds into, at a counter
  below 1024 and an id of the point's slice of the vocabulary.
-/
module

public import proofs.«01_k».proof.Proof.Gen.Kernel.Skeleton
public import proofs.«01_k».proof.Proof.Counting
public import Idealize.ShloMosaic.Lib.WordCmp
public import Idealize.ShloMosaic.Lib.ValueIdxCore

@[expose] public section

noncomputable section

namespace Cert.Kernel.Hand

open Idealize.ShloMosaic Cert.Kernel Cert.Kernel.Gen Cert.Proof.Counting Idealize.ShloMosaic.WordCmp Idealize.ShloMosaic.ValueIdx

/-- Entry `j` of a table of 1024. -/
def at1 {V : Type} (X : S1024.Idx → V) (j : ℕ) : V := X (ix1 (Fin.ofNat 1024 j))

/-- Id `j` as a natural. -/
def idn (ids : S1024.Idx → BitVec 32) (j : ℕ) : ℕ := (at1 ids j).toNat

/-- The ids are nonnegative as signed words, and sorted. -/
structure Good (ids : S1024.Idx → BitVec 32) : Prop where
  nonneg : ∀ j, idn ids j < 2 ^ 31
  sorted : Sorted (idn ids)

/-- One entry of a table of 1024, read through a rectangle of one element. -/
theorem read1 {V : Type} (X : S1024.Idx → V) {off : Fin 1 → ℕ} {j : ℕ} (h : off = ![j]) (hj : j < 1024)
    (inb : ∀ a, off a + S1.size a ≤ S1024.size a) (x : S1.Idx) :
    X ((Rect.unit (s := S1024) off S1.size inb).toLoadRect.idx x) = at1 X j := by
  subst h
  unfold at1
  congr 1
  funext a
  match a with
  | ⟨0, _⟩ =>
    apply Fin.ext
    have hx : (x 0).val < 1 := (x 0).isLt
    show j + 1 * (x 0).val = j % 1024
    rw [Nat.mod_eq_of_lt hj]; omega

theorem toNat_word {j : ℕ} (h : j ≤ 1024) : (BitVec.ofNat 32 j).toNat = j := toNat_ofNat_of_lt (by omega)

theorem off2_eq {j : ℕ} (h : j ≤ 1024) : k0_off2 (BitVec.ofNat 32 j) = ![min j 1023] := by
  show ![(IntOp.minsi (BitVec.ofNat 32 j) 1023#32).toNat] = ![min j 1023]
  refine congrArg (fun n : ℕ => ![n]) ?_
  unfold IntOp.minsi
  have h1 : (BitVec.ofNat 32 j).slt 1023#32 = decide (j < 1023) := by
    rw [BitVec.slt_eq_decide, toInt_ofNat_of_lt (by omega), toInt_ofNat_of_lt (by decide)]
    simp
  rw [h1]
  by_cases hj : j < 1023
  · simp only [hj, decide_true, if_true]; rw [toNat_word h]; omega
  · simp only [hj, decide_false]; simp; omega

theorem chk1 {j : ℕ} (h : j ≤ 1024) : k0_chk1 (BitVec.ofNat 32 j) := by
  unfold k0_chk1
  rw [off2_eq h]
  intro a
  match a with
  | ⟨0, _⟩ => show min j 1023 + 1 ≤ 1024; omega

theorem off3_eq {j : ℕ} (h : j ≤ 1024) : k0_off3 (BitVec.ofNat 32 j) = ![j] := by
  show ![(BitVec.ofNat 32 j).toNat] = ![j]
  rw [toNat_word h]

theorem off6_eq {j : ℕ} (h : j ≤ 1024) : k0_off6 (BitVec.ofNat 32 j) = ![j] := by
  show ![(BitVec.ofNat 32 j).toNat] = ![j]
  rw [toNat_word h]

theorem off5_eq {j : ℕ} (h : j ≤ 1024) : k0_off5 (BitVec.ofNat 32 j) = ![j, 0] := by
  show ![(BitVec.ofNat 32 j).toNat, 0] = ![j, 0]
  rw [toNat_word h]

theorem chk2 {j : ℕ} (h : j < 1024) : k0_chk2 (BitVec.ofNat 32 j) := by
  unfold k0_chk2
  rw [off3_eq h.le, off5_eq h.le, off6_eq h.le]
  refine ⟨fun a => ?_, fun a => ?_, fun a => ?_⟩
  · match a with
    | ⟨0, _⟩ => show j + 1 ≤ 1024; omega
  · match a with
    | ⟨0, _⟩ => show j + 1 ≤ 1024; omega
    | ⟨1, _⟩ => show 0 + 640 ≤ 640; omega
  · match a with
    | ⟨0, _⟩ => show j + 1 ≤ 1024; omega

theorem base_word (i : grid0.Coords) :
    Scalar.muli (BitVec.ofNat 32 (i 0).val) 2048#32 = BitVec.ofNat 32 (2048 * (i 0).val) := by
  show IntOp.muli (BitVec.ofNat 32 (i 0).val) (BitVec.ofNat 32 2048) = _
  rw [muli_ofNat, Nat.mul_comm]

theorem coord_lt (i : grid0.Coords) : (i 0).val < 128 := (i 0).isLt

theorem off4_eq (i : grid0.Coords) {w : BitVec 32} (h : 2048 * (i 0).val ≤ w.toNat) :
    k0_off4 i w = ![w.toNat - 2048 * (i 0).val, 0] := by
  have := coord_lt i
  show ![(Scalar.subi w (Scalar.muli (BitVec.ofNat 32 (i 0).val) 2048#32)).toNat, 0] = _
  refine congrArg (fun n : ℕ => ![n, 0]) ?_
  rw [base_word]
  show (w - BitVec.ofNat 32 (2048 * (i 0).val)).toNat = _
  rw [BitVec.toNat_sub_of_le]
  · rw [toNat_ofNat_of_lt (by omega)]
  · rw [BitVec.le_def, toNat_ofNat_of_lt (by omega)]; exact h

theorem chk3 (i : grid0.Coords) {w : BitVec 32} (h : 2048 * (i 0).val ≤ w.toNat) (h' : w.toNat < 2048 * ((i 0).val + 1)) :
    k0_chk3 i w := by
  unfold k0_chk3
  rw [off4_eq i h]
  intro a
  match a with
  | ⟨0, _⟩ => show w.toNat - 2048 * (i 0).val + 1 ≤ 2048; omega
  | ⟨1, _⟩ => show 0 + 640 ≤ 640; omega

/-- The loop's test: another id, and one of the point's slice. -/
theorem test_iff (i : grid0.Coords) {j : ℕ} (hj : j ≤ 1024) {w : BitVec 32} (hw : w.toNat < 2 ^ 31) :
    Scalar.andi (Scalar.cmpi .slt (BitVec.ofNat 32 j) 1024#32)
        (Scalar.cmpi .slt w (Scalar.addi (Scalar.muli (BitVec.ofNat 32 (i 0).val) 2048#32) 2048#32)) = 1#1
      ↔ j < 1024 ∧ w.toNat < 2048 * ((i 0).val + 1) := by
  have := coord_lt i
  have h2 : Scalar.addi (Scalar.muli (BitVec.ofNat 32 (i 0).val) 2048#32) 2048#32
      = BitVec.ofNat 32 (2048 * ((i 0).val + 1)) := by
    rw [base_word]
    show IntOp.addi _ (BitVec.ofNat 32 2048) = _
    rw [addi_ofNat]; rfl
  rw [h2]
  show IntOp.andi (IntOp.cmpi .slt (BitVec.ofNat 32 j) (BitVec.ofNat 32 1024)) (IntOp.cmpi .slt w _) = 1#1 ↔ _
  rw [cmpi_slt_ofNat (by omega) (by omega), cmpi_slt_of_lt (by omega) (by rw [toNat_ofNat_of_lt (by omega)]; omega),
    andi_ofBool, ofBool_eq_one_iff, toNat_ofNat_of_lt (by omega)]
  simp

theorem succ_word (j : ℕ) : Scalar.addi (BitVec.ofNat 32 j) 1#32 = BitVec.ofNat 32 (j + 1) := by
  show IntOp.addi _ (BitVec.ofNat 32 1) = _
  rw [addi_ofNat]

/-- The coordinates of a point as a function of its number. -/
def coordsOf (n : Fin 128) : grid0.Coords := fun d => match d with | ⟨0, _⟩ => n

theorem coordsOf_eq (i : grid0.Coords) : i = coordsOf (i 0) := by
  funext d
  match d with
  | ⟨0, _⟩ => rfl

theorem off1_coordsOf : ∀ n : Fin 128, k0_off1 (coordsOf n) 0 = n.val / 4 := by decide

/-- The scale row of a point: four points to a row. -/
theorem off1_eq (i : grid0.Coords) : k0_off1 i = ![(i 0).val / 4, 0] := by
  funext a
  match a with
  | ⟨0, _⟩ =>
    have := off1_coordsOf (i 0)
    rw [← coordsOf_eq i] at this
    exact this
  | ⟨1, _⟩ => rfl

end Cert.Kernel.Hand

end
-- ==== Proof.Own.lean ====
/-
  Loads and stores of an OWNED memref (`owns`: the elements held, at the values the memref reads): a load through a
  rectangle answers with the values at the rectangle's indices, a store over a rectangle leaves the old values with the
  stored ones laid over the rectangle. Stated for any program of the library, so that both printings of the kernel use them.
-/
module

public import Idealize.ShloMosaic.Lib.Pipeline.FrameBody
public import Idealize.ShloMosaic.Lib.Ring
public import Idealize.ShloMosaic.Lib.Tactic

@[expose] public section

noncomputable section

namespace Cert.Proof.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels} [Preorder Lvl]
local notation "𝕄" => MT nD τ sig Ix Val Name U Lvl

variable {defs : Defs nD τ sig Val Λ} (𝒱 : Variants) (c : Thread nD τ)
  (bd : Option 𝒱.V) (E : Set Name)
variable {s : Shape} {e : EltTy} {α : Type} {Q : α → sProp (MT nD τ sig Ix Val Name U Lvl)}

/-- A load of an owned memref: the program continues at the values the memref reads, taken at the rectangle's indices, and
    the memref is owned as before. -/
theorem wp_load_owns {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (fun x => X (r.idx x))) Q)
        -∗ wp frame (wpE defs 𝒱 c bd) E (.op (.load m r hl) k) Q) := by
  unfold owns
  iintro ⟨%f, %hf, H⟩ Hk
  iapply (wp_load 𝒱 c bd E (View.setOn_subset_set _ _)) $$ H
  iintro H
  subst hf
  iapply Hk
  iexists f
  isplitr
  · ipureintro; rfl
  iexact H

/-- An unmasked store of an owned memref: it is owned at the old values with the stored ones laid over the rectangle. -/
theorem wp_store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ)
    (by rw [View.setOn_univ]; exact View.set_slice_subset _ r)) $$ H
  iintro H
  subst hf
  iapply Hk
  iexists (m.access r).write Val f w Finset.univ
  isplitr
  · ipureintro
    funext y
    by_cases hy : y ∈ r.set
    · obtain ⟨x, rfl⟩ : ∃ x, r.emb x = y := r.exists_idx_of_mem hy
      rw [Rect.overlay_emb]
      exact View.read_slice_write_emb r f w (Finset.mem_univ x)
    · rw [Rect.overlay_of_not_mem _ _ _ hy]
      exact View.read_slice_write_of_not_mem r f w Finset.univ (by rw [Rect.map_emb_univ]; exact hy)
  iexact H

/-- Values laid over the whole shape are those values. -/
theorem overlay_full {V : Type} {s : Shape} {off : Fin s.rank → ℕ} (h : off = fun _ => 0) (inb : ∀ a, off a + s.size a ≤ s.size a)
    (X : s.Idx → V) (w : s.Idx → V) : (Rect.unit (s := s) off s.size inb).overlay X w = w := by
  subst h
  funext y
  have := (Rect.unit (s := s) (fun _ => 0) s.size inb).overlay_emb X w y
  have he : (Rect.unit (s := s) (fun _ => 0) s.size inb).emb y = y := Rect.emb_whole_apply _ y
  rwa [he] at this

/-- Values read through the whole shape are those values. -/
theorem ld_full {V : Type} {s : Shape} {off : Fin s.rank → ℕ} (h : off = fun _ => 0) (inb : ∀ a, off a + s.size a ≤ s.size a)
    (X : s.Idx → V) : (fun x : s.Idx => X ((Rect.unit (s := s) off s.size inb).toLoadRect.idx x)) = X := by
  subst h
  funext y
  exact congrArg X (Rect.emb_whole_apply s y)

end Cert.Proof.Own

end
-- ==== Proof.K.Loop.lean ====
/-
  The kernel's row loop. At point `t` it walks the sorted ids from the first one of the point's slice to the last, and adds
  to each id's row of the result block that position's row of the cast table times its scale. `rows` is the block after
  some of these steps; the loop's label, entered with `k` ids of the slice to go, meets the specification that says so.
-/
module

public import proofs.«01_k».proof.Proof.K.Words
public import proofs.«01_k».proof.Proof.Own

@[expose] public section

set_option maxRecDepth 16384

noncomputable section

namespace Cert.Kernel.Hand

open Idealize.ShloMosaic Cert.Kernel Cert.Kernel.Gen Cert.Proof.Counting Cert.Proof.Own Idealize.ShloMosaic.WordCmp Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Position `j`'s addition at point `t`: id `j`'s row of the block, with row `j` of the table times scale `j` added. -/
def rowStep (t : ℕ) (ids : Vec F S1024 .i32) (ef : Vec F S1024x640 .f32) (sc : Vec F S1024 .f32) (j : ℕ)
    (o : Vec F S2048x640 .f32) : Vec F S2048x640 .f32 := fun y =>
  if (y 0).val + 2048 * t = idn ids j then
    k0_pay3 (fun x => o (ix2 (y 0) (x 1))) (fun x => ef (ix2 (Fin.ofNat 1024 j) (x 1))) (at1 sc j) (ix2 0 (y 1))
  else o y

/-- The block after the `k` additions from position `j`. -/
def rows (t : ℕ) (ids : Vec F S1024 .i32) (ef : Vec F S1024x640 .f32) (sc : Vec F S1024 .f32) :
    (j k : ℕ) → Vec F S2048x640 .f32 → Vec F S2048x640 .f32
  | _, 0, o => o
  | j, k + 1, o => rows t ids ef sc (j + 1) k (rowStep t ids ef sc j o)

/-- One row of a rank-2 value, read through a rectangle of one row. -/
theorem readRow {V : Type} {n : ℕ} (X : (⟨2, ![n, 640]⟩ : Shape).Idx → V) {off : Fin 2 → ℕ} {r : ℕ} (h : off = ![r, 0]) (hr : r < n)
    (inb : ∀ a, off a + S1x640.size a ≤ (⟨2, ![n, 640]⟩ : Shape).size a) (x : S1x640.Idx) :
    X ((Rect.unit (s := ⟨2, ![n, 640]⟩) off S1x640.size inb).toLoadRect.idx x) = X (ix2 ⟨r, hr⟩ (x 1)) := by
  subst h
  congr 1
  funext a
  match a with
  | ⟨0, _⟩ =>
    apply Fin.ext
    have hx : (x 0).val < 1 := (x 0).isLt
    show r + 1 * (x 0).val = r
    omega
  | ⟨1, _⟩ =>
    apply Fin.ext
    show 0 + 1 * (x 1).val = (x 1).val
    omega

/-- The stored row laid over the block is `rowStep`. -/
theorem overlay_eq_rowStep (t : ℕ) (ids : Vec F S1024 .i32) (ef : Vec F S1024x640 .f32) (sc : Vec F S1024 .f32) {j : ℕ} (hj : j < 1024)
    (h0 : 2048 * t ≤ idn ids j) (h1 : idn ids j < 2048 * (t + 1)) (o : Vec F S2048x640 .f32)
    {off off' : Fin 2 → ℕ} (ho : off = ![idn ids j - 2048 * t, 0]) (ho' : off' = ![j, 0])
    (inb : ∀ a, off a + S1x640.size a ≤ S2048x640.size a) (inb' : ∀ a, off' a + S1x640.size a ≤ S1024x640.size a) :
    (Rect.unit (s := S2048x640) off S1x640.size inb).overlay o
        (k0_pay3 (F := F) (fun x => o ((Rect.unit (s := S2048x640) off S1x640.size inb).toLoadRect.idx x))
          (fun x => ef ((Rect.unit (s := S1024x640) off' S1x640.size inb').toLoadRect.idx x)) (at1 sc j))
      = rowStep t ids ef sc j o := by
  have hr : idn ids j - 2048 * t < 2048 := by omega
  have e1 : (fun x => o ((Rect.unit (s := S2048x640) off S1x640.size inb).toLoadRect.idx x))
      = fun x : S1x640.Idx => o (ix2 ⟨idn ids j - 2048 * t, hr⟩ (x 1)) := funext fun x => readRow o ho hr inb x
  have e2 : (fun x => ef ((Rect.unit (s := S1024x640) off' S1x640.size inb').toLoadRect.idx x))
      = fun x : S1x640.Idx => ef (ix2 (Fin.ofNat 1024 j) (x 1)) := funext fun x => by
    rw [readRow ef ho' hj inb' x]
    congr 2
    exact Fin.ext (Nat.mod_eq_of_lt hj).symm
  refine (congrArg ((Rect.unit (s := S2048x640) off S1x640.size inb).overlay o)
    (congrArg₂ (fun a b => k0_pay3 (F := F) a b (at1 sc j)) e1 e2)).trans ?_
  subst ho
  funext y
  unfold rowStep
  by_cases hy : (y 0).val + 2048 * t = idn ids j
  · rw [if_pos hy]
    have he : (Rect.unit (s := S2048x640) ![idn ids j - 2048 * t, 0] S1x640.size inb).emb (ix2 0 (y 1)) = y := by
      funext a
      match a with
      | ⟨0, _⟩ =>
        apply Fin.ext
        show idn ids j - 2048 * t + 1 * 0 = (y 0).val
        omega
      | ⟨1, _⟩ =>
        apply Fin.ext
        show 0 + 1 * (y 1).val = (y 1).val
        omega
    have hv := Rect.overlay_emb (Rect.unit (s := S2048x640) ![idn ids j - 2048 * t, 0] S1x640.size inb) o
      (k0_pay3 (F := F) (fun x => o (ix2 ⟨idn ids j - 2048 * t, hr⟩ (x 1))) (fun x => ef (ix2 (Fin.ofNat 1024 j) (x 1))) (at1 sc j))
      (ix2 0 (y 1))
    rw [he] at hv
    rw [hv]
    have hy0 : (⟨idn ids j - 2048 * t, hr⟩ : Fin 2048) = y 0 := Fin.ext (by show idn ids j - 2048 * t = (y 0).val; omega)
    rw [hy0]
  · rw [if_neg hy]
    apply Rect.overlay_of_not_mem
    rw [Rect.mem_set_unit]
    intro hm
    have h2 := hm 0
    have h3 : idn ids j - 2048 * t ≤ (y 0).val := h2.1
    have h4 : (y 0).val < idn ids j - 2048 * t + 1 := h2.2
    omega

/-- The loop runs under a natural-number bound. -/
abbrev 𝒱 : Variants := Variants.nat

section Label

variable (c : Dev nD) (i : grid0.Coords)
  (arg1 : Memref sig .tc .smem S1024 .i32) (harg1 : arg1.IsWhole) (arg8 : Memref sig .tc .vmem S2048x640 .f32) (harg8 : arg8.IsWhole)
  (arg11 : Memref sig .tc .vmem S1024x640 .f32) (harg11 : arg11.IsWhole) (arg2 : Memref sig .tc .smem S1024 .f32) (harg2 : arg2.IsWhole)
  (ids : Vec F S1024 .i32) (ef : Vec F S1024x640 .f32) (sc : Vec F S1024 .f32)

/-- The four memrefs the loop's function reads and writes: the block at `o`, the others at their values. -/
def held (o : Vec F S2048x640 .f32) : sProp 𝕄 :=
  iprop(owns ((c : Dev nD) : Thread nD τ) arg1 fullShare ids ∗ owns ((c : Dev nD) : Thread nD τ) arg2 fullShare sc
    ∗ owns ((c : Dev nD) : Thread nD τ) arg11 fullShare ef ∗ owns ((c : Dev nD) : Thread nD τ) arg8 fullShare o)

/-- With `k` ids of the slice to go from position `j`: holding the memrefs with the block at `o`, the loop returns position
    `j + k` and the block after the `k` additions. -/
def spec (j k : ℕ) (o : Vec F S2048x640 .f32) : sWPT 𝕄 (BitVec 32) := do
  sWPT.consume (held c arg1 arg8 arg11 arg2 ids ef sc o)
  sWPT.produce (held c arg1 arg8 arg11 arg2 ids ef sc (rows (i 0).val ids ef sc j k o))
  pure (BitVec.ofNat 32 (j + k))

theorem spec_apply (j k : ℕ) (o : Vec F S2048x640 .f32) (K : BitVec 32 → sProp 𝕄) :
    spec c i arg1 arg8 arg11 arg2 ids ef sc j k o K
      = iprop(held c arg1 arg8 arg11 arg2 ids ef sc o
        ∗ (held c arg1 arg8 arg11 arg2 ids ef sc (rows (i 0).val ids ef sc j k o) -∗ K (BitVec.ofNat 32 (j + k)))) := rfl

/-- The loop's function meets the specification, by induction on how many ids of the slice are to go. -/
theorem spec_le (hg : Good ids) (E : Set ℕ) :
    ∀ k j, cnt (idn ids) (2048 * (i 0).val) ≤ j → j + k = cnt (idn ids) (2048 * ((i 0).val + 1)) → ∀ o K,
      spec c i arg1 arg8 arg11 arg2 ids ef sc j k o K
      ⊢ wp frame (wpE (defs₀ (F := F)) 𝒱 (c : Thread nD τ) (some k)) E
          (defs₀ (F := F) .tc 1 ⟨i, arg1, harg1, arg8, harg8, arg11, harg11, arg2, harg2, BitVec.ofNat 32 j⟩) K := by
  intro k
  induction k with
  | zero =>
    intro j hj0 hj o K
    have hle := cnt_le (idn ids) (2048 * ((i 0).val + 1))
    rw [spec_apply]
    show _ ⊢ wp frame (wpE (defs₀ (F := F)) 𝒱 (c : Thread nD τ) (some 0)) E
      (cc0_while1 i arg1 harg1 arg8 harg8 arg11 harg11 arg2 harg2 (BitVec.ofNat 32 j)) K
    simp only [cc0_while1_eq_skeleton]; unfold cc0_while1_skel
    simp only [smemLoad, smemLoadElt, Prog.lift, Prog.bind_op, Prog.bind_ret, Prog.pure_eq_ret]
    unfold held
    iintro ⟨⟨H1, H2, H11, H8⟩, Hk⟩
    iapply (wp_assume 𝒱 (c : Thread nD τ) (some 0) E (chk1 (j := j) (by omega)))
    iapply (wp_load_owns 𝒱 (c : Thread nD τ) (some 0) E) $$ H1; iintro H1
    have hread := fun x => read1 ids (off2_eq (j := j) (by omega)) (by omega : min j 1023 < 1024) (k0_off2_inb _ (chk1 (j := j) (by omega))) x
    have htest : ¬ (Scalar.andi (Scalar.cmpi .slt (BitVec.ofNat 32 j) 1024#32)
        (Scalar.cmpi .slt (at1 ids (min j 1023)) (Scalar.addi (Scalar.muli (BitVec.ofNat 32 (i 0).val) 2048#32) 2048#32)) = 1#1) := by
      rw [test_iff i (by omega) (hg.nonneg _)]
      rintro ⟨hlt, h⟩
      rw [show min j 1023 = j by omega] at h
      have := (lt_cnt_iff hg.sorted hlt _).mpr h
      omega
    simp only [hread]
    rw [if_neg htest]
    rw [wp_ret]; imodintro
    iapply Hk
    simp only [rows]
    isplitl [H1]; · iexact H1
    isplitl [H2]; · iexact H2
    isplitl [H11]; · iexact H11
    iexact H8
  | succ k ih =>
    intro j hj0 hj o K
    have hle := cnt_le (idn ids) (2048 * ((i 0).val + 1))
    have hjlt : j < 1024 := by omega
    have hhi : idn ids j < 2048 * ((i 0).val + 1) := (lt_cnt_iff hg.sorted hjlt _).mp (by omega)
    have hlo : 2048 * (i 0).val ≤ idn ids j := by
      by_contra h
      have := (lt_cnt_iff hg.sorted hjlt (2048 * (i 0).val)).mpr (by omega)
      omega
    rw [spec_apply]
    show _ ⊢ wp frame (wpE (defs₀ (F := F)) 𝒱 (c : Thread nD τ) (some (k + 1))) E
      (cc0_while1 i arg1 harg1 arg8 harg8 arg11 harg11 arg2 harg2 (BitVec.ofNat 32 j)) K
    simp only [cc0_while1_eq_skeleton]; unfold cc0_while1_skel
    simp only [smemLoad, smemLoadElt, Prog.lift, Prog.bind_op, Prog.bind_ret, Prog.pure_eq_ret]
    unfold held
    iintro ⟨⟨H1, H2, H11, H8⟩, Hk⟩
    iapply (wp_assume 𝒱 (c : Thread nD τ) (some (k + 1)) E (chk1 (j := j) hjlt.le))
    iapply (wp_load_owns 𝒱 (c : Thread nD τ) (some (k + 1)) E) $$ H1; iintro H1
    have hread := fun x => read1 ids (off2_eq (j := j) hjlt.le) (by omega : min j 1023 < 1024) (k0_off2_inb _ (chk1 (j := j) hjlt.le)) x
    rw [show min j 1023 = j by omega] at hread
    have htest : (Scalar.andi (Scalar.cmpi .slt (BitVec.ofNat 32 j) 1024#32)
        (Scalar.cmpi .slt (at1 ids j) (Scalar.addi (Scalar.muli (BitVec.ofNat 32 (i 0).val) 2048#32) 2048#32)) = 1#1) :=
      (test_iff i hjlt.le (hg.nonneg _)).mpr ⟨hjlt, hhi⟩
    simp only [hread]
    rw [if_pos htest]
    iapply (wp_assume 𝒱 (c : Thread nD τ) (some (k + 1)) E (chk2 hjlt))
    iapply (wp_load_owns 𝒱 (c : Thread nD τ) (some (k + 1)) E) $$ H1; iintro H1
    have hread3 := fun x => read1 ids (off3_eq (j := j) hjlt.le) hjlt (k0_off3_inb _ (chk2 hjlt)) x
    beta_reduce
    rw [hread3]
    iapply (wp_assume 𝒱 (c : Thread nD τ) (some (k + 1)) E (chk3 i (w := at1 ids j) hlo hhi))
    iapply (wp_load_owns 𝒱 (c : Thread nD τ) (some (k + 1)) E) $$ H8; iintro H8
    iapply (wp_load_owns 𝒱 (c : Thread nD τ) (some (k + 1)) E) $$ H11; iintro H11
    iapply (wp_load_owns 𝒱 (c : Thread nD τ) (some (k + 1)) E) $$ H2; iintro H2
    have hread6 := fun x => read1 sc (off6_eq (j := j) hjlt.le) hjlt (k0_off6_inb _ (chk2 hjlt)) x
    simp only [hread6]
    iapply (wp_load_owns 𝒱 (c : Thread nD τ) (some (k + 1)) E) $$ H8; iintro H8
    iapply (wp_store_owns 𝒱 (c : Thread nD τ) (some (k + 1)) E) $$ H8; iintro H8
    have hov := overlay_eq_rowStep (i 0).val ids ef sc hjlt hlo hhi o (off4_eq i hlo) (off5_eq hjlt.le)
      (k0_off4_inb i (at1 ids j) (chk3 i (w := at1 ids j) hlo hhi)) (k0_off5_inb _ (chk2 hjlt))
    erw [hov]
    rw [succ_word]
    iapply (wp_call_spec 𝒱 (c : Thread nD τ) (some (k + 1)) E
      (spec c i arg1 arg8 arg11 arg2 ids ef sc (j + 1) k (rowStep (i 0).val ids ef sc j o)) k
      (fun u hu => by cases hu; exact Nat.lt_succ_self k)
      (ih (j + 1) (by omega) (by omega) (rowStep (i 0).val ids ef sc j o)))
    rw [spec_apply]; unfold held
    isplitl [H1 H2 H11 H8]
    · isplitl [H1]; · iexact H1
      isplitl [H2]; · iexact H2
      isplitl [H11]; · iexact H11
      iexact H8
    iintro ⟨H1, H2, H11, H8⟩
    rw [wp_ret]; imodintro
    rw [show j + 1 + k = j + (k + 1) by omega]
    iapply Hk
    simp only [rows]
    isplitl [H1]; · iexact H1
    isplitl [H2]; · iexact H2
    isplitl [H11]; · iexact H11
    iexact H8

end Label

end Cert.Kernel.Hand

end
-- ==== Proof.K.Run.lean ====
/-
  The kernel's body at one grid point, run on any whole memrefs: at the first point it fills its scratch from the inputs,
  at every point it writes the four chunks of the block and walks the point's ids. `blockOf` is the block it leaves.
-/
module

public import proofs.«01_k».proof.Proof.K.Loop

@[expose] public section

set_option maxRecDepth 16384

noncomputable section

namespace Cert.Kernel.Hand

open Idealize.ShloMosaic Cert.Kernel Cert.Kernel.Gen Cert.Proof.Counting Cert.Proof.Own Idealize.ShloMosaic.WordCmp Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scale row point `t` reads: four points to a row. -/
def srow (t : ℕ) (dlt : Vec F S32x1024 .f32) : Vec F S1x1024 .f32 := fun x => dlt (ix2 (Fin.ofNat 32 (t / 4)) (x 1))

/-- Chunk `q` of the point's columns of `g`. -/
def gcol (g : Vec F S1024x2048 .fp8e5m2) (q : ℕ) : Vec F S1024x512 .fp8e5m2 :=
  fun x => g (ix2 (x 0) (Fin.ofNat 2048 (512 * q + (x 1).val)))

/-- The block after its four chunks are stored. -/
def chunks (t : ℕ) (hx : Vec F S640x1024 .bf16) (dlt : Vec F S32x1024 .f32) (g : Vec F S1024x2048 .fp8e5m2) :
    Vec F S2048x640 .f32 :=
  fun y => k0_pay8 (srow t dlt) hx (gcol g ((y 0).val / 512)) (ix2 (Fin.ofNat 512 (y 0).val) (y 1))

/-- The block point `t` leaves: the four chunks, then the additions of the point's ids. -/
def blockOf (t : ℕ) (ids : Vec F S1024 .i32) (sc : Vec F S1024 .f32) (ef : Vec F S1024x640 .f32) (hx : Vec F S640x1024 .bf16)
    (dlt : Vec F S32x1024 .f32) (g : Vec F S1024x2048 .fp8e5m2) : Vec F S2048x640 .f32 :=
  rows t ids ef sc (cnt (idn ids) (2048 * t)) (cnt (idn ids) (2048 * (t + 1)) - cnt (idn ids) (2048 * t)) (chunks t hx dlt g)

theorem read_srow (i : grid0.Coords) (dlt : Vec F S32x1024 .f32) :
    (fun x => dlt ((Rect.unit (s := S32x1024) (k0_off1 i) S1x1024.size (k0_off1_inb i)).toLoadRect.idx x)) = srow (i 0).val dlt := by
  funext x
  unfold srow
  congr 1
  have hi := coord_lt i
  have h0 : k0_off1 i 0 = (i 0).val / 4 := by rw [off1_eq]; rfl
  have h1 : k0_off1 i 1 = 0 := by rw [off1_eq]; rfl
  have hx : (x 0).val < 1 := (x 0).isLt
  funext a
  match a with
  | ⟨0, _⟩ =>
    apply Fin.ext
    show k0_off1 i 0 + 1 * (x 0).val = (i 0).val / 4 % 32
    omega
  | ⟨1, _⟩ =>
    apply Fin.ext
    show k0_off1 i 1 + 1 * (x 1).val = (x 1).val
    omega

theorem read_gcol (g : Vec F S1024x2048 .fp8e5m2) (q : ℕ) (hq : q < 4) {n : ℕ} (hn : n = 512 * q)
    (inb : ∀ a, (![0, n] : Fin 2 → ℕ) a + S1024x512.size a ≤ S1024x2048.size a) :
    (fun x => g ((Rect.unit (s := S1024x2048) ![0, n] S1024x512.size inb).toLoadRect.idx x)) = gcol g q := by
  subst hn
  funext x
  unfold gcol
  congr 1
  have hx : (x 1).val < 512 := (x 1).isLt
  funext a
  match a with
  | ⟨0, _⟩ =>
    apply Fin.ext
    show 0 + 1 * (x 0).val = (x 0).val
    omega
  | ⟨1, _⟩ =>
    apply Fin.ext
    show 512 * q + 1 * (x 1).val = (512 * q + (x 1).val) % 2048
    omega

/-- A chunk of rows laid over a block, at an index. -/
theorem overlay_chunk (X : Vec F S2048x640 .f32) (w : Vec F S512x640 .f32) (r : ℕ)
    (inb : ∀ a, (![r, 0] : Fin 2 → ℕ) a + S512x640.size a ≤ S2048x640.size a) (y : S2048x640.Idx) :
    (Rect.unit (s := S2048x640) ![r, 0] S512x640.size inb).overlay X w y
      = if r ≤ (y 0).val ∧ (y 0).val < r + 512 then w (ix2 (Fin.ofNat 512 ((y 0).val - r)) (y 1)) else X y := by
  by_cases hy : r ≤ (y 0).val ∧ (y 0).val < r + 512
  · rw [if_pos hy]
    have hv := Rect.overlay_emb (Rect.unit (s := S2048x640) ![r, 0] S512x640.size inb) X w (ix2 (Fin.ofNat 512 ((y 0).val - r)) (y 1))
    have he : (Rect.unit (s := S2048x640) ![r, 0] S512x640.size inb).emb (ix2 (Fin.ofNat 512 ((y 0).val - r)) (y 1)) = y := by
      funext a
      match a with
      | ⟨0, _⟩ =>
        apply Fin.ext
        show r + 1 * (((y 0).val - r) % 512) = (y 0).val
        omega
      | ⟨1, _⟩ =>
        apply Fin.ext
        show 0 + 1 * (y 1).val = (y 1).val
        omega
    exact (congrArg ((Rect.unit (s := S2048x640) ![r, 0] S512x640.size inb).overlay X w) he).symm.trans hv
  · rw [if_neg hy]
    apply Rect.overlay_of_not_mem
    rw [Rect.mem_set_unit]
    intro hm
    have h2 := hm 0
    exact hy ⟨h2.1, h2.2⟩

/-- The four chunks stored over anything are `chunks`. -/
theorem overlay_chunks (X : Vec F S2048x640 .f32) (t : ℕ) (hx : Vec F S640x1024 .bf16) (dlt : Vec F S32x1024 .f32)
    (g : Vec F S1024x2048 .fp8e5m2)
    (inb0 : ∀ a, (![0, 0] : Fin 2 → ℕ) a + S512x640.size a ≤ S2048x640.size a)
    (inb1 : ∀ a, (![512, 0] : Fin 2 → ℕ) a + S512x640.size a ≤ S2048x640.size a)
    (inb2 : ∀ a, (![1024, 0] : Fin 2 → ℕ) a + S512x640.size a ≤ S2048x640.size a)
    (inb3 : ∀ a, (![1536, 0] : Fin 2 → ℕ) a + S512x640.size a ≤ S2048x640.size a) :
    (Rect.unit (s := S2048x640) ![1536, 0] S512x640.size inb3).overlay
      ((Rect.unit (s := S2048x640) ![1024, 0] S512x640.size inb2).overlay
        ((Rect.unit (s := S2048x640) ![512, 0] S512x640.size inb1).overlay
          ((Rect.unit (s := S2048x640) ![0, 0] S512x640.size inb0).overlay X (k0_pay8 (srow t dlt) hx (gcol g 0)))
          (k0_pay9 (srow t dlt) hx (gcol g 1)))
        (k0_pay1 (k0_pay7 (srow t dlt) hx) (gcol g 2)))
      (k0_pay2 (k0_pay7 (srow t dlt) hx) (gcol g 3))
    = chunks t hx dlt g := by
  funext y
  have hy : (y 0).val < 2048 := (y 0).isLt
  have key : ∀ q, q < 4 → ∀ r, r = 512 * q → r ≤ (y 0).val → (y 0).val < r + 512 →
      chunks t hx dlt g y = k0_pay8 (srow t dlt) hx (gcol g q) (ix2 (Fin.ofNat 512 ((y 0).val - r)) (y 1)) := by
    intro q hq r hr h0 h1
    unfold chunks
    have e1 : (y 0).val / 512 = q := by omega
    have e2 : Fin.ofNat 512 (y 0).val = Fin.ofNat 512 ((y 0).val - r) := Fin.ext (by show (y 0).val % 512 = ((y 0).val - r) % 512; omega)
    rw [e1, e2]
  rw [overlay_chunk]
  by_cases h3 : 1536 ≤ (y 0).val ∧ (y 0).val < 1536 + 512
  · rw [if_pos h3, key 3 (by omega) 1536 rfl h3.1 h3.2]; rfl
  rw [if_neg h3, overlay_chunk]
  by_cases h2 : 1024 ≤ (y 0).val ∧ (y 0).val < 1024 + 512
  · rw [if_pos h2, key 2 (by omega) 1024 rfl h2.1 h2.2]; rfl
  rw [if_neg h2, overlay_chunk]
  by_cases h1 : 512 ≤ (y 0).val ∧ (y 0).val < 512 + 512
  · rw [if_pos h1, key 1 (by omega) 512 rfl h1.1 h1.2]; rfl
  rw [if_neg h1, overlay_chunk]
  rw [if_pos (by omega), key 0 (by omega) 0 rfl (by omega) (by omega)]

theorem zz2 : (![0, 0] : Fin 2 → ℕ) = fun _ => 0 := by funext a; match a with | ⟨0, _⟩ => rfl | ⟨1, _⟩ => rfl
theorem zz1 : (![0] : Fin 1 → ℕ) = fun _ => 0 := by funext a; match a with | ⟨0, _⟩ => rfl

/-- The condition of the body's first branch: the first point. -/
abbrev isFirst (i : grid0.Coords) : Prop := (Scalar.cmpi .ne (Scalar.extui (Scalar.cmpi .eq (BitVec.ofNat 32 (i 0).val) 0#32)) 0#32) = 1#1

section Body

variable (c : Dev nD) (i : grid0.Coords)
  (arg1 : Memref sig .tc .smem S1024 .i32) (harg1 : arg1.IsWhole) (arg2 : Memref sig .tc .smem S1024 .f32) (harg2 : arg2.IsWhole)
  (arg3 : Memref sig .tc .vmem S1024x32 .f32) (harg3 : arg3.IsWhole) (arg4 : Memref sig .tc .vmem S1024x640 .fp8e4m3) (harg4 : arg4.IsWhole)
  (arg5 : Memref sig .tc .vmem S1x1024 .f32) (harg5 : arg5.IsWhole) (arg6 : Memref sig .tc .vmem S1024x640 .fp8e5m2) (harg6 : arg6.IsWhole)
  (arg7 : Memref sig .tc .vmem S1024x2048 .fp8e5m2) (harg7 : arg7.IsWhole) (arg8 : Memref sig .tc .vmem S2048x640 .f32) (harg8 : arg8.IsWhole)
  (arg9 : Memref sig .tc .vmem S640x1024 .bf16) (harg9 : arg9.IsWhole) (arg10 : Memref sig .tc .vmem S32x1024 .f32) (harg10 : arg10.IsWhole)
  (arg11 : Memref sig .tc .vmem S1024x640 .f32) (harg11 : arg11.IsWhole) (arg12 : Memref sig .tc .smem S1 .i32) (harg12 : arg12.IsWhole)
  (ids : Vec F S1024 .i32) (sc : Vec F S1024 .f32) (dls : Vec F S1024x32 .f32) (x : Vec F S1024x640 .fp8e4m3) (xs : Vec F S1x1024 .f32)
  (e : Vec F S1024x640 .fp8e5m2) (g : Vec F S1024x2048 .fp8e5m2)

/-- The scratch: the scaled transposed `x`, the transposed scales, the cast table, and the position of the point's first id. -/
def scr (hx : Vec F S640x1024 .bf16) (dlt : Vec F S32x1024 .f32) (ef : Vec F S1024x640 .f32) (n : ℕ) : sProp 𝕄 :=
  iprop(owns ((c : Dev nD) : Thread nD τ) arg9 fullShare hx ∗ owns ((c : Dev nD) : Thread nD τ) arg10 fullShare dlt
    ∗ owns ((c : Dev nD) : Thread nD τ) arg11 fullShare ef
    ∗ owns ((c : Dev nD) : Thread nD τ) arg12 fullShare ((fun _ => BitVec.ofNat 32 n : S1.Idx → BitVec 32)))

/-- The inputs the body reads. -/
def ins : sProp 𝕄 :=
  iprop(owns ((c : Dev nD) : Thread nD τ) arg1 fullShare ids ∗ owns ((c : Dev nD) : Thread nD τ) arg2 fullShare sc
    ∗ owns ((c : Dev nD) : Thread nD τ) arg3 fullShare dls ∗ owns ((c : Dev nD) : Thread nD τ) arg4 fullShare x
    ∗ owns ((c : Dev nD) : Thread nD τ) arg5 fullShare xs ∗ owns ((c : Dev nD) : Thread nD τ) arg6 fullShare e
    ∗ owns ((c : Dev nD) : Thread nD τ) arg7 fullShare g)

set_option maxHeartbeats 4000000 in
/-- The body, its scratch at named values if the point is not the first and at anything if it is: it leaves the inputs as
    they were, the scratch with the position of the next point's first id, and the block at `blockOf`. -/
theorem run (hg : Good ids) (hx : Vec F S640x1024 .bf16) (dlt : Vec F S32x1024 .f32) (ef : Vec F S1024x640 .f32)
    (h1 : isFirst i → (i 0).val = 0 ∧ hx = k0_pay4 x xs ∧ dlt = k0_pay5 dls ∧ ef = k0_pay6 e)
    (E : Set ℕ) (K : PUnit → sProp 𝕄) :
    iprop(ins c arg1 arg2 arg3 arg4 arg5 arg6 arg7 ids sc dls x xs e g
      ∗ (∃ d, owns ((c : Dev nD) : Thread nD τ) arg8 fullShare d)
      ∗ (∃ hx' dlt' ef' p', (⌜¬ isFirst i → hx' = hx ∧ dlt' = dlt ∧ ef' = ef ∧ p' = ((fun _ => BitVec.ofNat 32 (cnt (idn ids) (2048 * (i 0).val))) : S1.Idx → BitVec 32)⌝
          ∗ owns ((c : Dev nD) : Thread nD τ) arg9 fullShare hx' ∗ owns ((c : Dev nD) : Thread nD τ) arg10 fullShare dlt'
          ∗ owns ((c : Dev nD) : Thread nD τ) arg11 fullShare ef' ∗ owns ((c : Dev nD) : Thread nD τ) arg12 fullShare p'))
      ∗ (iprop(ins c arg1 arg2 arg3 arg4 arg5 arg6 arg7 ids sc dls x xs e g
          ∗ owns ((c : Dev nD) : Thread nD τ) arg8 fullShare (blockOf (i 0).val ids sc ef hx dlt g)
          ∗ scr c arg9 arg10 arg11 arg12 hx dlt ef (cnt (idn ids) (2048 * ((i 0).val + 1)))) -∗ K ⟨⟩))
    ⊢ wp frame (wpE (defs₀ (F := F)) 𝒱 (c : Thread nD τ) none) E
        (cc0_tied_embedding_dw i arg1 harg1 arg2 harg2 arg3 harg3 arg4 harg4 arg5 harg5 arg6 harg6 arg7 harg7 arg8 harg8 arg9 harg9 arg10 harg10 arg11 harg11 arg12 harg12) K := by
  simp only [cc0_tied_embedding_dw_eq_skeleton]; unfold cc0_tied_embedding_dw_skel
  simp only [k0_part1_eq_skeleton]; unfold k0_part1_skel
  simp only [smemLoad, smemLoadElt, Prog.lift, Prog.bind_op, Prog.bind_ret, Prog.pure_eq_ret, bind_assoc]
  have hmono := cnt_mono (idn ids) (v := 2048 * (i 0).val) (w := 2048 * ((i 0).val + 1)) (by omega)
  unfold ins scr
  iintro ⟨⟨H1, H2, H3, H4, H5, H6, H7⟩, ⟨%d, H8⟩, ⟨%hx', %dlt', %ef', %p', %hs, H9, H10, H11, H12⟩, Hk⟩
  by_cases h0 : isFirst i
  case' pos =>
    obtain ⟨hi, e1, e2, e3⟩ := h1 h0
    rw [dif_pos h0]; simp only [Prog.bind_op, Prog.bind_ret]
    iapply (wp_load_owns 𝒱 (c : Thread nD τ) none E) $$ H4; iintro H4
    iapply (wp_load_owns 𝒱 (c : Thread nD τ) none E) $$ H5; iintro H5
    iapply (wp_load_owns 𝒱 (c : Thread nD τ) none E) $$ H9; iintro H9
    iapply (wp_store_owns 𝒱 (c : Thread nD τ) none E) $$ H9; iintro H9
    iapply (wp_load_owns 𝒱 (c : Thread nD τ) none E) $$ H3; iintro H3
    iapply (wp_load_owns 𝒱 (c : Thread nD τ) none E) $$ H10; iintro H10
    iapply (wp_store_owns 𝒱 (c : Thread nD τ) none E) $$ H10; iintro H10
    iapply (wp_load_owns 𝒱 (c : Thread nD τ) none E) $$ H6; iintro H6
    iapply (wp_load_owns 𝒱 (c : Thread nD τ) none E) $$ H11; iintro H11
    iapply (wp_store_owns 𝒱 (c : Thread nD τ) none E) $$ H11; iintro H11
    iapply (wp_load_owns 𝒱 (c : Thread nD τ) none E) $$ H12; iintro H12
    iapply (wp_store_owns 𝒱 (c : Thread nD τ) none E) $$ H12; iintro H12
    erw [overlay_full zz2, overlay_full zz2, overlay_full zz2, overlay_full zz1]
    erw [ld_full zz2, ld_full zz2, ld_full zz2, ld_full zz2]
    erw [← e1, ← e2, ← e3]
    erw [show (fun _ => 0#32 : S1.Idx → BitVec 32) = fun _ => BitVec.ofNat 32 (cnt (idn ids) (2048 * (i 0).val)) by
      rw [hi, Nat.mul_zero, cnt_zero]]
  case' neg =>
    obtain ⟨e1, e2, e3, e4⟩ := hs h0
    subst hx' dlt' ef' p'
    rw [dif_neg h0]; simp only [Prog.bind_op, Prog.bind_ret]
  all_goals
    iapply (wp_load_owns 𝒱 (c : Thread nD τ) none E) $$ H10; iintro H10
    iapply (wp_load_owns 𝒱 (c : Thread nD τ) none E) $$ H9; iintro H9
    iapply (wp_load_owns 𝒱 (c : Thread nD τ) none E) $$ H7; iintro H7
    iapply (wp_load_owns 𝒱 (c : Thread nD τ) none E) $$ H8; iintro H8
    iapply (wp_store_owns 𝒱 (c : Thread nD τ) none E) $$ H8; iintro H8
    iapply (wp_load_owns 𝒱 (c : Thread nD τ) none E) $$ H7; iintro H7
    iapply (wp_load_owns 𝒱 (c : Thread nD τ) none E) $$ H8; iintro H8
    iapply (wp_store_owns 𝒱 (c : Thread nD τ) none E) $$ H8; iintro H8
    iapply (wp_load_owns 𝒱 (c : Thread nD τ) none E) $$ H7; iintro H7
    iapply (wp_load_owns 𝒱 (c : Thread nD τ) none E) $$ H8; iintro H8
    iapply (wp_store_owns 𝒱 (c : Thread nD τ) none E) $$ H8; iintro H8
    iapply (wp_load_owns 𝒱 (c : Thread nD τ) none E) $$ H7; iintro H7
    iapply (wp_load_owns 𝒱 (c : Thread nD τ) none E) $$ H8; iintro H8
    iapply (wp_store_owns 𝒱 (c : Thread nD τ) none E) $$ H8; iintro H8
    iapply (wp_load_owns 𝒱 (c : Thread nD τ) none E) $$ H12; iintro H12
    erw [read_srow, ld_full zz2, read_gcol g 0 (by omega) rfl, read_gcol g 1 (by omega) rfl, read_gcol g 2 (by omega) rfl,
      read_gcol g 3 (by omega) rfl, overlay_chunks]
    iapply (wp_call_spec 𝒱 (c : Thread nD τ) none E
      (spec c i arg1 arg8 arg11 arg2 ids ef sc (cnt (idn ids) (2048 * (i 0).val))
        (cnt (idn ids) (2048 * ((i 0).val + 1)) - cnt (idn ids) (2048 * (i 0).val)) (chunks (i 0).val hx dlt g))
      (cnt (idn ids) (2048 * ((i 0).val + 1)) - cnt (idn ids) (2048 * (i 0).val)) (fun u hu => nomatch hu)
      (spec_le c i arg1 harg1 arg8 harg8 arg11 harg11 arg2 harg2 ids ef sc hg E
        (cnt (idn ids) (2048 * ((i 0).val + 1)) - cnt (idn ids) (2048 * (i 0).val)) (cnt (idn ids) (2048 * (i 0).val)) le_rfl
        (by omega) (chunks (i 0).val hx dlt g)))
    rw [spec_apply]; unfold held
    isplitl [H1 H2 H11 H8]
    · isplitl [H1]; · iexact H1
      isplitl [H2]; · iexact H2
      isplitl [H11]; · iexact H11
      iexact H8
    iintro ⟨H1, H2, H11, H8⟩
    iapply (wp_load_owns 𝒱 (c : Thread nD τ) none E) $$ H12; iintro H12
    iapply (wp_store_owns 𝒱 (c : Thread nD τ) none E) $$ H12; iintro H12
    rw [wp_ret]; imodintro
    erw [overlay_full zz1]
    rw [show cnt (idn ids) (2048 * (i 0).val) + (cnt (idn ids) (2048 * ((i 0).val + 1)) - cnt (idn ids) (2048 * (i 0).val))
      = cnt (idn ids) (2048 * ((i 0).val + 1)) by omega]
    iapply Hk
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [H9]; · iexact H9
    isplitl [H10]; · iexact H10
    isplitl [H11]; · iexact H11
    iexact H12

end Body

end Cert.Kernel.Hand

end
-- ==== Proof.K.Blocks.lean ====
/-
  The windows' blocks: windows 0 to 5 hold their whole array at every point, window 6 the point's columns of `g`.
-/
module

public import proofs.«01_k».proof.Proof.K.Kit
public import proofs.«01_k».proof.Proof.K.Run
public import Idealize.ShloMosaic.Lib.Pipeline.ValueKit

@[expose] public section

set_option maxRecDepth 16384

noncomputable section

namespace Cert.Kernel.Hand

open Cert.Kernel Cert.Kernel.Gen
open Idealize.ShloMosaic Idealize.ShloMosaic.TcCoe Idealize.ShloMosaic.ValueIdx
open Idealize.SL Idealize.SL.RA
open Idealize.ShloMosaic.Pipeline (Dat Cfg Window)

variable {F : FTy → Type} [FloatOps F]

variable (m : (ℓ : Loc nD τ sig) → Buf (Elt F) ℓ)

theorem idx0 : ∀ t : Fin grid0.N, (win0 0).index t = ![0] := by decide +kernel
theorem idx1 : ∀ t : Fin grid0.N, (win0 1).index t = ![0] := by decide +kernel
theorem idx2 : ∀ t : Fin grid0.N, (win0 2).index t = ![0, 0] := by decide +kernel
theorem idx3 : ∀ t : Fin grid0.N, (win0 3).index t = ![0, 0] := by decide +kernel
theorem idx4 : ∀ t : Fin grid0.N, (win0 4).index t = ![0, 0] := by decide +kernel
theorem idx5 : ∀ t : Fin grid0.N, (win0 5).index t = ![0, 0] := by decide +kernel
theorem idx6 : ∀ t : Fin grid0.N, (win0 6).index t = ![0, t.val] := by decide +kernel
theorem idx7 : ∀ t : Fin grid0.N, (win0 7).index t = ![t.val, 0] := by decide +kernel

/-- The ids, as the region finds them. -/
abbrev idsV (c : Dev nD) : Vec F S1024 .i32 := V m c main_arg6
/-- The table's scales. -/
abbrev scV (c : Dev nD) : Vec F S1024 .f32 := V m c main_arg5
/-- The scales of `g`. -/
abbrev dlsV (c : Dev nD) : Vec F S1024x32 .f32 := V m c main_v0
/-- The tokens' rows. -/
abbrev xV (c : Dev nD) : Vec F S1024x640 .fp8e4m3 := V m c main_v1
/-- The tokens' scales. -/
abbrev xsV (c : Dev nD) : Vec F S1x1024 .f32 := V m c main_v2
/-- The table. -/
abbrev eV (c : Dev nD) : Vec F S1024x640 .fp8e5m2 := V m c main_arg4
/-- The array `g`. -/
abbrev gV (c : Dev nD) : Vec F S1024x262144 .fp8e5m2 := V m c main_v3

/-- Point `t`'s columns of `g`. -/
def gblk (g : Vec F S1024x262144 .fp8e5m2) (t : ℕ) : Vec F S1024x2048 .fp8e5m2 :=
  fun x => g (ValueIdx.ix2 (x 0) (Fin.ofNat 262144 (2048 * t + (x 1).val)))

/-- Window 0 holds its whole array at every point. -/
theorem iblk0 (c : Dev nD) (t : Fin (cfg0 (F := F)).N) : (iblk m c 0 t : Vec F S1024 .i32) = idsV m c := by
  funext (x : S1024.Idx)
  blk_simp [iblk]
  congr 1
  funext a
  match a with
  | ⟨0, _⟩ =>
    apply Fin.ext
    blk_simp
    exact (congrArg (fun n => n * 1024 + (x 0).val) (congrFun (idx0 t) 0)).trans (by show 0 * 1024 + (x 0).val = (x 0).val; omega)

/-- Window 1 holds its whole array at every point. -/
theorem iblk1 (c : Dev nD) (t : Fin (cfg0 (F := F)).N) : (iblk m c 1 t : Vec F S1024 .f32) = scV m c := by
  funext (x : S1024.Idx)
  blk_simp [iblk]
  congr 1
  funext a
  match a with
  | ⟨0, _⟩ =>
    apply Fin.ext
    blk_simp
    exact (congrArg (fun n => n * 1024 + (x 0).val) (congrFun (idx1 t) 0)).trans (by show 0 * 1024 + (x 0).val = (x 0).val; omega)

/-- Window 2 holds its whole array at every point. -/
theorem iblk2 (c : Dev nD) (t : Fin (cfg0 (F := F)).N) : (iblk m c 2 t : Vec F S1024x32 .f32) = dlsV m c := by
  funext (x : S1024x32.Idx)
  blk_simp [iblk]
  congr 1
  funext a
  match a with
  | ⟨0, _⟩ =>
    apply Fin.ext
    blk_simp
    exact (congrArg (fun n => n * 1024 + (x 0).val) (congrFun (idx2 t) 0)).trans (by show 0 * 1024 + (x 0).val = (x 0).val; omega)
  | ⟨1, _⟩ =>
    apply Fin.ext
    blk_simp
    exact (congrArg (fun n => n * 32 + (x 1).val) (congrFun (idx2 t) 1)).trans (by show 0 * 32 + (x 1).val = (x 1).val; omega)

/-- Window 3 holds its whole array at every point. -/
theorem iblk3 (c : Dev nD) (t : Fin (cfg0 (F := F)).N) : (iblk m c 3 t : Vec F S1024x640 .fp8e4m3) = xV m c := by
  funext (x : S1024x640.Idx)
  blk_simp [iblk]
  congr 1
  funext a
  match a with
  | ⟨0, _⟩ =>
    apply Fin.ext
    blk_simp
    exact (congrArg (fun n => n * 1024 + (x 0).val) (congrFun (idx3 t) 0)).trans (by show 0 * 1024 + (x 0).val = (x 0).val; omega)
  | ⟨1, _⟩ =>
    apply Fin.ext
    blk_simp
    exact (congrArg (fun n => n * 640 + (x 1).val) (congrFun (idx3 t) 1)).trans (by show 0 * 640 + (x 1).val = (x 1).val; omega)

/-- Window 4 holds its whole array at every point. -/
theorem iblk4 (c : Dev nD) (t : Fin (cfg0 (F := F)).N) : (iblk m c 4 t : Vec F S1x1024 .f32) = xsV m c := by
  funext (x : S1x1024.Idx)
  blk_simp [iblk]
  congr 1
  funext a
  match a with
  | ⟨0, _⟩ =>
    apply Fin.ext
    blk_simp
    exact congrFun (idx4 t) 0
  | ⟨1, _⟩ =>
    apply Fin.ext
    blk_simp
    exact (congrArg (fun n => n * 1024 + (x 1).val) (congrFun (idx4 t) 1)).trans (by show 0 * 1024 + (x 1).val = (x 1).val; omega)

/-- Window 5 holds its whole array at every point. -/
theorem iblk5 (c : Dev nD) (t : Fin (cfg0 (F := F)).N) : (iblk m c 5 t : Vec F S1024x640 .fp8e5m2) = eV m c := by
  funext (x : S1024x640.Idx)
  blk_simp [iblk]
  congr 1
  funext a
  match a with
  | ⟨0, _⟩ =>
    apply Fin.ext
    blk_simp
    exact (congrArg (fun n => n * 1024 + (x 0).val) (congrFun (idx5 t) 0)).trans (by show 0 * 1024 + (x 0).val = (x 0).val; omega)
  | ⟨1, _⟩ =>
    apply Fin.ext
    blk_simp
    exact (congrArg (fun n => n * 640 + (x 1).val) (congrFun (idx5 t) 1)).trans (by show 0 * 640 + (x 1).val = (x 1).val; omega)

/-- Window 6 holds the point's columns of `g`. -/
theorem iblk6 (c : Dev nD) (t : Fin (cfg0 (F := F)).N) : (iblk m c 6 t : Vec F S1024x2048 .fp8e5m2) = gblk (gV m c) t.val := by
  have ht : t.val < 128 := lt_of_lt_of_eq t.isLt N_0
  funext (x : S1024x2048.Idx)
  have hx : (x 1).val < 2048 := (x 1).isLt
  unfold gblk
  blk_simp [iblk]
  congr 1
  funext a
  match a with
  | ⟨0, _⟩ =>
    apply Fin.ext
    blk_simp
    exact (congrArg (fun n => n * 1024 + (x 0).val) (congrFun (idx6 t) 0)).trans (by show 0 * 1024 + (x 0).val = (x 0).val; omega)
  | ⟨1, _⟩ =>
    apply Fin.ext
    blk_simp
    exact (congrArg (fun n => n * 2048 + (x 1).val) (congrFun (idx6 t) 1)).trans (by
      show t.val * 2048 + (x 1).val = (2048 * t.val + (x 1).val) % 262144; omega)

end Cert.Kernel.Hand

end
-- ==== Proof.K.Frame.lean ====
/-
  The launch of the kernel: what each point leaves, the body's triple at a point, and the run of the whole program, whose
  result array holds `blockOf` of every point and whose arguments are unchanged.
-/
module

public import proofs.«01_k».proof.Proof.K.Blocks

@[expose] public section

set_option maxRecDepth 16384

noncomputable section

namespace Cert.Kernel.Hand

open Cert.Kernel Cert.Kernel.Gen Cert.Proof.Counting
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scaled transposed tokens. -/
def hxV (c : Dev nD) : Vec F S640x1024 .bf16 := k0_pay4 (xV m c) (xsV m c)
/-- The transposed scales of `g`. -/
def dltV (c : Dev nD) : Vec F S32x1024 .f32 := k0_pay5 (dlsV m c)
/-- The table, cast. -/
def efV (c : Dev nD) : Vec F S1024x640 .f32 := k0_pay6 (eV m c)

/-- What point `t` leaves in the output's block. -/
def outV (c : Dev nD) (t : ℕ) : Vec F S2048x640 .f32 :=
  blockOf t (idsV m c) (scV m c) (efV m c) (hxV m c) (dltV m c) (gblk (gV m c) t)

/-- The invariant before position `n`: at the start every scratch at anything; afterwards the scratch at the first point's
    values, the last the position of the first id of the points from `n` on. -/
def PhiS (c : Dev nD) : (n : ℕ) → n ≤ (cfg0 (F := F)).N → sProp 𝕄
  | 0, _ => Pipeline.ΦA spec0 c
  | n + 1, _ => iprop(scr c scM0_0 scM0_1 scM0_2 scM0_3 (hxV m c) (dltV m c) (efV m c) (cnt (idn (idsV m c)) (2048 * (n + 1)))
      ∗ (∃ r, prngReg c r))

theorem PhiS_zero (c : Dev nD) (n : ℕ) (h : n ≤ (cfg0 (F := F)).N) (hz : n = 0) : PhiS m c n h = Pipeline.ΦA spec0 c := by
  subst hz; rfl

theorem PhiS_pos (c : Dev nD) (n : ℕ) (h : n ≤ (cfg0 (F := F)).N) (hz : n ≠ 0) :
    PhiS m c n h = iprop(scr c scM0_0 scM0_1 scM0_2 scM0_3 (hxV m c) (dltV m c) (efV m c) (cnt (idn (idsV m c)) (2048 * n))
      ∗ (∃ r, prngReg c r)) := by
  cases n with
  | zero => exact absurd rfl hz
  | succ n => rfl

/-- The pipeline's proof data: the arrays as the region finds them, each input's block left in place, the output's at
    `outV`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outV m c t.val
  Φ t := PhiS m c t.val (Nat.le_of_lt_succ t.isLt)
  q _ := fullShare
  owed _ := 0

theorem A_eq (c : Dev nD) (w : Fin (cfg0 (F := F)).W) : (dats m 0 c).A w = V m c (Pipeline.arrRef spec0 w) := by
  dsimp only [dats]

theorem PhiS_castSucc (c : Dev nD) (t : Fin (cfg0 (F := F)).N) :
    (dats m 0 c).Φ t.castSucc = PhiS m c t.val (Nat.le_of_lt t.isLt) := by
  dsimp only [dats]; exact Pipeline.Dat.Φ_castSucc (PhiS m c) t

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl
theorem after0_7 (c : Dev nD) (t : Fin (cfg0 (F := F)).N) : (dats m 0 c).after 7 t = outV m c t.val := by dsimp only [dats]; rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

theorem coords0' : ∀ t : Fin grid0.N, (grid0.coords t 0).val = t.val := by decide +kernel
theorem coords0 (t : Fin (cfg0 (F := F)).N) : (grid0.coords t 0).val = t.val := coords0' t

set_option maxHeartbeats 4000000 in
/-- The body at any point. -/
theorem sound_body (c : Dev nD) (hg : Good (idsV m c)) (t : Fin (cfg0 (F := F)).N) :
    bodyPre m c t ⊢ wp frame (wpE (defs₀ (F := F)) 𝒱 c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_pos m c (t.val + 1) _ (by omega)]
  have hN : t.val < 128 := lt_of_lt_of_eq t.isLt (show (cfg0 (F := F)).N = 128 from N_0)
  have hc : (grid0.coords t 0).val = t.val := coords0 t
  have hf : isFirst (grid0.coords t) → t.val = 0 := fun h => by
    have := (hcond0_0 t).mp h
    omega
  unfold outV
  rw [iblk0, iblk1, iblk2, iblk3, iblk4, iblk5, iblk6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  have hΦ : (dats m 0 c).Φ t.castSucc ⊢ iprop((∃ hx' dlt' ef' p', (⌜¬ isFirst (grid0.coords t) → hx' = hxV m c ∧ dlt' = dltV m c ∧ ef' = efV m c
          ∧ p' = ((fun _ => BitVec.ofNat 32 (cnt (idn (idsV m c)) (2048 * (grid0.coords t 0).val))) : S1.Idx → BitVec 32)⌝
        ∗ owns ((c : Dev nD) : Thread nD τ) scM0_0 fullShare hx' ∗ owns ((c : Dev nD) : Thread nD τ) scM0_1 fullShare dlt'
        ∗ owns ((c : Dev nD) : Thread nD τ) scM0_2 fullShare ef' ∗ owns ((c : Dev nD) : Thread nD τ) scM0_3 fullShare p'))
      ∗ (∃ r, prngReg c r)) := by
    rw [PhiS_castSucc m c t]
    by_cases hz : t.val = 0
    · have h1 : isFirst (grid0.coords t) := (hcond0_0 t).mpr (by omega)
      rw [PhiS_zero m c _ _ hz, PhiA0_eq]
      iintro ⟨⟨⟨%a0, HS0⟩, ⟨%a1, HS1⟩, ⟨%a2, HS2⟩, ⟨%a3, HS3⟩⟩, Hg⟩
      isplitl [HS0 HS1 HS2 HS3]
      · iexists a0, a1, a2, a3
        isplitr; · ipureintro; exact fun h => absurd h1 h
        isplitl [HS0]; · iexact HS0
        isplitl [HS1]; · iexact HS1
        isplitl [HS2]; · iexact HS2
        iexact HS3
      iexact Hg
    · rw [PhiS_pos m c _ _ hz]
      unfold scr
      iintro ⟨⟨HS0, HS1, HS2, HS3⟩, Hg⟩
      isplitl [HS0 HS1 HS2 HS3]
      · iexists (hxV m c), (dltV m c), (efV m c), _
        isplitr
        swap
        · isplitl [HS0]; · iexact HS0
          isplitl [HS1]; · iexact HS1
          isplitl [HS2]; · iexact HS2
          iexact HS3
        ipureintro; exact fun _ => ⟨rfl, rfl, rfl, by rw [hc]⟩
      iexact Hg
  ihave HΦ' := hΦ $$ HΦ
  icases HΦ' with ⟨HS, Hg⟩
  iapply (run c (grid0.coords t) _ _ _ _ _ _ _ _ _ _ _ _ _ _ _ _ _ _ _ _ _ _ _ _ (idsV m c) (scV m c) (dlsV m c) (xV m c) (xsV m c) (eV m c)
    (gblk (gV m c) t.val) hg (hxV m c) (dltV m c) (efV m c) (fun h => ⟨hc.trans (hf h), rfl, rfl, rfl⟩) Set.univ _)
  unfold ins
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [HS]; · iexact HS
  rw [hc]
  iintro ⟨⟨H0, H1, H2, H3, H4, H5, H6⟩, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body obligation, at every point. -/
theorem body_obligation (c : Dev nD) (hg : Good (idsV m c)) :
    BodyObligation (dats (F := F) m 0 c) (defs₀ (F := F)) 𝒱 () Set.univ := fun t => by
  rw [bigSep_W0, bigSep_W0, defs₀_row]
  exact triple_restated (sound_body m c hg t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last (cfg0 (F := F)).N) ⊢ Pipeline.ΦA spec0 c := by
  have hN : (cfg0 (F := F)).N = 128 := N_0
  rw [show (dats m 0 c).Φ (Fin.last (cfg0 (F := F)).N) = PhiS m c (cfg0 (F := F)).N le_rfl from rfl, PhiS_pos m c _ _ (by omega), PhiA0_eq]
  unfold scr
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- The launch: the run ends at the pipeline's post, every semaphore counter at zero. -/
theorem run_main_quiescent (hg : ∀ c, Good (idsV m c)) : θ_run defs (onTc (τ := τ) (main (F := F))) (s₀ m ρ)
    (fun r => (Pipeline.FramePost (cfgs (F := F)) (dats m) 0 (V m)) r ∧ r.2.sem = fun _ => 0) :=
  Pipeline.θ_run_frame_track (Q' := _) cfgs (dats m) (0 : Fin 1) launch0 defs₀ 𝒱 m ρ main
    (hbody := fun c => (body_obligation m c (hg c)).loose) (hshare := fun c => (dats m 0 c).share_full fun _ => rfl)
    (howed := fun _ _ => rfl) (V := V m) (hmain := hmain m 𝒱) (hA := A_eq m) (hin := hin m) (hout := hout m)

/-- The frame: the run ends with every argument unchanged and every counter at zero. -/
theorem frame_run (hg : ∀ c, Good (idsV m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main_quiescent m ρ hg)))
    ((θ_run defs _ _).mono (fun _ h => h.2) (run_main_quiescent m ρ hg))

end Cert.Kernel.Hand

end
-- ==== Proof.K.Pre.lean ====
/-
  The precondition, read: where `ids_ok` of the arguments is 1 the ids are nonnegative and sorted.
-/
module

public import proofs.«01_k».proof.Proof.K.Words
public import proofs.«01_k».proof.Proof.Gen.Pre_ids_ok
public import Idealize.ShloMosaic.Lib.ReduceAll
public import Idealize.ShloMosaic.Lib.Affine
public import Idealize.ShloMosaic.Lib.Pipeline.Value

@[expose] public section

set_option maxRecDepth 16384

noncomputable section

namespace Cert.Kernel.Hand

open Idealize.ShloMosaic Cert.Proof.Counting

variable {F : FTy → Type} [FloatOps F]

instance : Subsingleton Cert.Pre_ids_ok.S_.Idx := ⟨fun a b => funext fun i => i.elim0⟩

/-- Where the precondition's value is 1, the ids are nonnegative and sorted. -/
theorem good_of_pre [Cert.Pre_ids_ok.Facts] (a0 : FVec F Cert.Pre_ids_ok.S2x512x262144 .fp8e5m2) (a1 : FVec F Cert.Pre_ids_ok.S2x512x32 .f32)
    (a2 : FVec F Cert.Pre_ids_ok.S2x512x640 .fp8e4m3) (a3 : FVec F Cert.Pre_ids_ok.S2x512 .f32)
    (a4 : FVec F Cert.Pre_ids_ok.S1024x640 .fp8e5m2) (a5 : FVec F Cert.Pre_ids_ok.S1024 .f32) (ids : S1024.Idx → BitVec 32)
    (h : Cert.Pre_ids_ok.fn (F := F) a0 a1 a2 a3 a4 a5 ids = fun _ => 1#1) : Good ids := by
  have h0 := congrFun h (fun i : Fin 0 => i.elim0)
  obtain ⟨hA, hB⟩ := IntOp.andi_eq_one.1 h0
  have nn : ∀ j, 0 ≤ (at1 ids j).toInt := fun j => by
    have := Host.reduce_andi_all _ _ _ _ _ hA (ValueIdx.ix1 (Fin.ofNat 1024 j))
    exact IntOp.cmpi_sge.1 this
  have hn : ∀ j, (at1 ids j).toInt = (idn ids j : ℤ) := fun j => by
    have := BitVec.toInt_eq_toNat_cond (at1 ids j)
    have := nn j
    have hlt := (at1 ids j).isLt
    unfold idn
    split at * <;> omega
  refine ⟨fun j => ?_, fun j hj => ?_⟩
  · have := @BitVec.toInt_lt 32 (at1 ids j)
    rw [hn j] at this
    have h2 : ((2 : ℤ) ^ (32 - 1)) = ((2 ^ 31 : ℕ) : ℤ) := by norm_num
    rw [h2] at this
    exact_mod_cast this
  · have := Host.reduce_andi_all _ _ _ _ _ hB (ValueIdx.ix1 (⟨j, by omega⟩ : Fin 1023))
    have h2 := IntOp.cmpi_sle.1 this
    have e0 : extractStridedSlice Cert.Pre_ids_ok.S1023 ![0] ids Cert.Pre_ids_ok.Facts.slices_S1024_S1023_0 (ValueIdx.ix1 (⟨j, by omega⟩ : Fin 1023))
        = at1 ids j := extractStridedSlice_apply _ _ _ _ _ fun a => by
      match a with
      | ⟨0, _⟩ => show j % 1024 = 0 + j; omega
    have e1 : extractStridedSlice Cert.Pre_ids_ok.S1023 ![1] ids Cert.Pre_ids_ok.Facts.slices_S1024_S1023_1 (ValueIdx.ix1 (⟨j, by omega⟩ : Fin 1023))
        = at1 ids (j + 1) := extractStridedSlice_apply _ _ _ _ _ fun a => by
      match a with
      | ⟨0, _⟩ => show (j + 1) % 1024 = 1 + j; omega
    have h3 : (at1 ids j).toInt ≤ (at1 ids (j + 1)).toInt := by rw [← e0, ← e1]; exact h2
    rw [hn, hn] at h3
    exact_mod_cast h3

end Cert.Kernel.Hand

end
-- ==== Proof.KI.Kit.lean ====
/-
  What the launch of the kernel is stated over: the host operations before the region, each window's block at a point, the
  staging and scratch memrefs, and the unchanged arguments from the pipeline's post.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The unchanged arguments from the run -/

/-- A run to the pipeline's post leaves every argument array as launched, for any proof data whose arrays are the
    region-entry contents. -/
theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by show ∀ w, (spec0 w).arr.view.ref ≠ main_arg0; decide))).trans (V_main_arg0 m c),
      ((h c).2 main_arg1 (Pipeline.mem_restRefs_of main_arg1 (by decide) (by show ∀ w, (spec0 w).arr.view.ref ≠ main_arg1; decide))).trans (V_main_arg1 m c),
      ((h c).2 main_arg2 (Pipeline.mem_restRefs_of main_arg2 (by decide) (by show ∀ w, (spec0 w).arr.view.ref ≠ main_arg2; decide))).trans (V_main_arg2 m c),
      ((h c).2 main_arg3 (Pipeline.mem_restRefs_of main_arg3 (by decide) (by show ∀ w, (spec0 w).arr.view.ref ≠ main_arg3; decide))).trans (V_main_arg3 m c),
      ((h c).1 5).trans (((dats 0 c).arrAt_in 5 rfl _).trans ((hA c 5).trans (V_main_arg4 m c))),
      ((h c).1 1).trans (((dats 0 c).arrAt_in 1 rfl _).trans ((hA c 1).trans (V_main_arg5 m c))),
      ((h c).1 0).trans (((dats 0 c).arrAt_in 0 rfl _).trans ((hA c 0).trans (V_main_arg6 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin (cfg0 (F := F)).N, cond0_0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [cond0_0, e0]
    word_cmp
   : ∀ t : Fin grid0.N, cond0_0 (grid0.coords t) ↔ t.val % 128 = 0)

/-! ## The kernel body on any staging memrefs: a subtype the run finds -/

/-- Each window's current staging memref at point `t`, spelled as the pipeline passes it (`bodyAt0`), and its wholeness. -/
abbrev ms0_0 (t : Fin (cfg0 (F := F)).N) : Memref sig .tc .smem S1024 .i32 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .smem S1024 .f32 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1024x32 .f32 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1024x640 .fp8e4m3 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x1024 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S1024x640 .fp8e5m2 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .vmem S1024x2048 .fp8e5m2 := win0_6.stage ((cfg0 (F := F)).slots t 6)
abbrev hs0_6 (t : Fin (cfg0 (F := F)).N) : (ms0_6 t).IsWhole := hstage0_6 (((cfg0 (F := F)).slots t 6).cast nbuf0_6)
abbrev ms0_7 (t : Fin (cfg0 (F := F)).N) : Memref sig .tc .vmem S2048x640 .f32 := win0_7.stage ((cfg0 (F := F)).slots t 7)
abbrev hs0_7 (t : Fin (cfg0 (F := F)).N) : (ms0_7 t).IsWhole := hstage0_7 (((cfg0 (F := F)).slots t 7).cast nbuf0_7)

/-- The scratch operands: whole scoped buffers of the kernel's own, passed beside the windows. -/
abbrev scM0_0 : Memref sig .tc .vmem S640x1024 .bf16 := Memref.whole cc0_scratch0
abbrev scM0_1 : Memref sig .tc .vmem S32x1024 .f32 := Memref.whole cc0_scratch1
abbrev scM0_2 : Memref sig .tc .vmem S1024x640 .f32 := Memref.whole cc0_scratch2
abbrev scM0_3 : Memref sig .tc .smem S1 .i32 := Memref.whole cc0_scratch3
/-- The scratch `arg12` the kernel carries between points, as a view: what it holds is stated through it. -/
abbrev VS0_3 : View sig .tc .smem S1 .i32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KI.Words.lean ====
/-
  The words of the kernel's row loop: the counter, the loop's test, and the offsets of the rows it adds into, at a counter
  below 1024 and an id of the point's slice of the vocabulary.
-/
module

public import proofs.«01_k».proof.Proof.Gen.KernelIdeal.Skeleton
public import proofs.«01_k».proof.Proof.Counting
public import Idealize.ShloMosaic.Lib.WordCmp
public import Idealize.ShloMosaic.Lib.ValueIdxCore

@[expose] public section

noncomputable section

namespace Cert.KernelIdeal.Hand

open Idealize.ShloMosaic Cert.KernelIdeal Cert.KernelIdeal.Gen Cert.Proof.Counting Idealize.ShloMosaic.WordCmp Idealize.ShloMosaic.ValueIdx

/-- Entry `j` of a table of 1024. -/
def at1 {V : Type} (X : S1024.Idx → V) (j : ℕ) : V := X (ix1 (Fin.ofNat 1024 j))

/-- Id `j` as a natural. -/
def idn (ids : S1024.Idx → BitVec 32) (j : ℕ) : ℕ := (at1 ids j).toNat

/-- The ids are nonnegative as signed words, and sorted. -/
structure Good (ids : S1024.Idx → BitVec 32) : Prop where
  nonneg : ∀ j, idn ids j < 2 ^ 31
  sorted : Sorted (idn ids)

/-- One entry of a table of 1024, read through a rectangle of one element. -/
theorem read1 {V : Type} (X : S1024.Idx → V) {off : Fin 1 → ℕ} {j : ℕ} (h : off = ![j]) (hj : j < 1024)
    (inb : ∀ a, off a + S1.size a ≤ S1024.size a) (x : S1.Idx) :
    X ((Rect.unit (s := S1024) off S1.size inb).toLoadRect.idx x) = at1 X j := by
  subst h
  unfold at1
  congr 1
  funext a
  match a with
  | ⟨0, _⟩ =>
    apply Fin.ext
    have hx : (x 0).val < 1 := (x 0).isLt
    show j + 1 * (x 0).val = j % 1024
    rw [Nat.mod_eq_of_lt hj]; omega

theorem toNat_word {j : ℕ} (h : j ≤ 1024) : (BitVec.ofNat 32 j).toNat = j := toNat_ofNat_of_lt (by omega)

theorem off2_eq {j : ℕ} (h : j ≤ 1024) : k0_off2 (BitVec.ofNat 32 j) = ![min j 1023] := by
  show ![(IntOp.minsi (BitVec.ofNat 32 j) 1023#32).toNat] = ![min j 1023]
  refine congrArg (fun n : ℕ => ![n]) ?_
  unfold IntOp.minsi
  have h1 : (BitVec.ofNat 32 j).slt 1023#32 = decide (j < 1023) := by
    rw [BitVec.slt_eq_decide, toInt_ofNat_of_lt (by omega), toInt_ofNat_of_lt (by decide)]
    simp
  rw [h1]
  by_cases hj : j < 1023
  · simp only [hj, decide_true, if_true]; rw [toNat_word h]; omega
  · simp only [hj, decide_false]; simp; omega

theorem chk1 {j : ℕ} (h : j ≤ 1024) : k0_chk1 (BitVec.ofNat 32 j) := by
  unfold k0_chk1
  rw [off2_eq h]
  intro a
  match a with
  | ⟨0, _⟩ => show min j 1023 + 1 ≤ 1024; omega

theorem off3_eq {j : ℕ} (h : j ≤ 1024) : k0_off3 (BitVec.ofNat 32 j) = ![j] := by
  show ![(BitVec.ofNat 32 j).toNat] = ![j]
  rw [toNat_word h]

theorem off6_eq {j : ℕ} (h : j ≤ 1024) : k0_off6 (BitVec.ofNat 32 j) = ![j] := by
  show ![(BitVec.ofNat 32 j).toNat] = ![j]
  rw [toNat_word h]

theorem off5_eq {j : ℕ} (h : j ≤ 1024) : k0_off5 (BitVec.ofNat 32 j) = ![j, 0] := by
  show ![(BitVec.ofNat 32 j).toNat, 0] = ![j, 0]
  rw [toNat_word h]

theorem chk2 {j : ℕ} (h : j < 1024) : k0_chk2 (BitVec.ofNat 32 j) := by
  unfold k0_chk2
  rw [off3_eq h.le, off5_eq h.le, off6_eq h.le]
  refine ⟨fun a => ?_, fun a => ?_, fun a => ?_⟩
  · match a with
    | ⟨0, _⟩ => show j + 1 ≤ 1024; omega
  · match a with
    | ⟨0, _⟩ => show j + 1 ≤ 1024; omega
    | ⟨1, _⟩ => show 0 + 640 ≤ 640; omega
  · match a with
    | ⟨0, _⟩ => show j + 1 ≤ 1024; omega

theorem base_word (i : grid0.Coords) :
    Scalar.muli (BitVec.ofNat 32 (i 0).val) 2048#32 = BitVec.ofNat 32 (2048 * (i 0).val) := by
  show IntOp.muli (BitVec.ofNat 32 (i 0).val) (BitVec.ofNat 32 2048) = _
  rw [muli_ofNat, Nat.mul_comm]

theorem coord_lt (i : grid0.Coords) : (i 0).val < 128 := (i 0).isLt

theorem off4_eq (i : grid0.Coords) {w : BitVec 32} (h : 2048 * (i 0).val ≤ w.toNat) :
    k0_off4 i w = ![w.toNat - 2048 * (i 0).val, 0] := by
  have := coord_lt i
  show ![(Scalar.subi w (Scalar.muli (BitVec.ofNat 32 (i 0).val) 2048#32)).toNat, 0] = _
  refine congrArg (fun n : ℕ => ![n, 0]) ?_
  rw [base_word]
  show (w - BitVec.ofNat 32 (2048 * (i 0).val)).toNat = _
  rw [BitVec.toNat_sub_of_le]
  · rw [toNat_ofNat_of_lt (by omega)]
  · rw [BitVec.le_def, toNat_ofNat_of_lt (by omega)]; exact h

theorem chk3 (i : grid0.Coords) {w : BitVec 32} (h : 2048 * (i 0).val ≤ w.toNat) (h' : w.toNat < 2048 * ((i 0).val + 1)) :
    k0_chk3 i w := by
  unfold k0_chk3
  rw [off4_eq i h]
  intro a
  match a with
  | ⟨0, _⟩ => show w.toNat - 2048 * (i 0).val + 1 ≤ 2048; omega
  | ⟨1, _⟩ => show 0 + 640 ≤ 640; omega

/-- The loop's test: another id, and one of the point's slice. -/
theorem test_iff (i : grid0.Coords) {j : ℕ} (hj : j ≤ 1024) {w : BitVec 32} (hw : w.toNat < 2 ^ 31) :
    Scalar.andi (Scalar.cmpi .slt (BitVec.ofNat 32 j) 1024#32)
        (Scalar.cmpi .slt w (Scalar.addi (Scalar.muli (BitVec.ofNat 32 (i 0).val) 2048#32) 2048#32)) = 1#1
      ↔ j < 1024 ∧ w.toNat < 2048 * ((i 0).val + 1) := by
  have := coord_lt i
  have h2 : Scalar.addi (Scalar.muli (BitVec.ofNat 32 (i 0).val) 2048#32) 2048#32
      = BitVec.ofNat 32 (2048 * ((i 0).val + 1)) := by
    rw [base_word]
    show IntOp.addi _ (BitVec.ofNat 32 2048) = _
    rw [addi_ofNat]; rfl
  rw [h2]
  show IntOp.andi (IntOp.cmpi .slt (BitVec.ofNat 32 j) (BitVec.ofNat 32 1024)) (IntOp.cmpi .slt w _) = 1#1 ↔ _
  rw [cmpi_slt_ofNat (by omega) (by omega), cmpi_slt_of_lt (by omega) (by rw [toNat_ofNat_of_lt (by omega)]; omega),
    andi_ofBool, ofBool_eq_one_iff, toNat_ofNat_of_lt (by omega)]
  simp

theorem succ_word (j : ℕ) : Scalar.addi (BitVec.ofNat 32 j) 1#32 = BitVec.ofNat 32 (j + 1) := by
  show IntOp.addi _ (BitVec.ofNat 32 1) = _
  rw [addi_ofNat]

/-- The coordinates of a point as a function of its number. -/
def coordsOf (n : Fin 128) : grid0.Coords := fun d => match d with | ⟨0, _⟩ => n

theorem coordsOf_eq (i : grid0.Coords) : i = coordsOf (i 0) := by
  funext d
  match d with
  | ⟨0, _⟩ => rfl

theorem off1_coordsOf : ∀ n : Fin 128, k0_off1 (coordsOf n) 0 = n.val / 4 := by decide

/-- The scale row of a point: four points to a row. -/
theorem off1_eq (i : grid0.Coords) : k0_off1 i = ![(i 0).val / 4, 0] := by
  funext a
  match a with
  | ⟨0, _⟩ =>
    have := off1_coordsOf (i 0)
    rw [← coordsOf_eq i] at this
    exact this
  | ⟨1, _⟩ => rfl

end Cert.KernelIdeal.Hand

end
-- ==== Proof.KI.Loop.lean ====
/-
  The kernel's row loop. At point `t` it walks the sorted ids from the first one of the point's slice to the last, and adds
  to each id's row of the result block that position's row of the cast table times its scale. `rows` is the block after
  some of these steps; the loop's label, entered with `k` ids of the slice to go, meets the specification that says so.
-/
module

public import proofs.«01_k».proof.Proof.KI.Words
public import proofs.«01_k».proof.Proof.Own

@[expose] public section

set_option maxRecDepth 16384

noncomputable section

namespace Cert.KernelIdeal.Hand

open Idealize.ShloMosaic Cert.KernelIdeal Cert.KernelIdeal.Gen Cert.Proof.Counting Cert.Proof.Own Idealize.ShloMosaic.WordCmp Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Position `j`'s addition at point `t`: id `j`'s row of the block, with row `j` of the table times scale `j` added. -/
def rowStep (t : ℕ) (ids : Vec F S1024 .i32) (ef : Vec F S1024x640 .f32) (sc : Vec F S1024 .f32) (j : ℕ)
    (o : Vec F S2048x640 .f32) : Vec F S2048x640 .f32 := fun y =>
  if (y 0).val + 2048 * t = idn ids j then
    k0_pay3 (fun x => o (ix2 (y 0) (x 1))) (fun x => ef (ix2 (Fin.ofNat 1024 j) (x 1))) (at1 sc j) (ix2 0 (y 1))
  else o y

/-- The block after the `k` additions from position `j`. -/
def rows (t : ℕ) (ids : Vec F S1024 .i32) (ef : Vec F S1024x640 .f32) (sc : Vec F S1024 .f32) :
    (j k : ℕ) → Vec F S2048x640 .f32 → Vec F S2048x640 .f32
  | _, 0, o => o
  | j, k + 1, o => rows t ids ef sc (j + 1) k (rowStep t ids ef sc j o)

/-- One row of a rank-2 value, read through a rectangle of one row. -/
theorem readRow {V : Type} {n : ℕ} (X : (⟨2, ![n, 640]⟩ : Shape).Idx → V) {off : Fin 2 → ℕ} {r : ℕ} (h : off = ![r, 0]) (hr : r < n)
    (inb : ∀ a, off a + S1x640.size a ≤ (⟨2, ![n, 640]⟩ : Shape).size a) (x : S1x640.Idx) :
    X ((Rect.unit (s := ⟨2, ![n, 640]⟩) off S1x640.size inb).toLoadRect.idx x) = X (ix2 ⟨r, hr⟩ (x 1)) := by
  subst h
  congr 1
  funext a
  match a with
  | ⟨0, _⟩ =>
    apply Fin.ext
    have hx : (x 0).val < 1 := (x 0).isLt
    show r + 1 * (x 0).val = r
    omega
  | ⟨1, _⟩ =>
    apply Fin.ext
    show 0 + 1 * (x 1).val = (x 1).val
    omega

/-- The stored row laid over the block is `rowStep`. -/
theorem overlay_eq_rowStep (t : ℕ) (ids : Vec F S1024 .i32) (ef : Vec F S1024x640 .f32) (sc : Vec F S1024 .f32) {j : ℕ} (hj : j < 1024)
    (h0 : 2048 * t ≤ idn ids j) (h1 : idn ids j < 2048 * (t + 1)) (o : Vec F S2048x640 .f32)
    {off off' : Fin 2 → ℕ} (ho : off = ![idn ids j - 2048 * t, 0]) (ho' : off' = ![j, 0])
    (inb : ∀ a, off a + S1x640.size a ≤ S2048x640.size a) (inb' : ∀ a, off' a + S1x640.size a ≤ S1024x640.size a) :
    (Rect.unit (s := S2048x640) off S1x640.size inb).overlay o
        (k0_pay3 (F := F) (fun x => o ((Rect.unit (s := S2048x640) off S1x640.size inb).toLoadRect.idx x))
          (fun x => ef ((Rect.unit (s := S1024x640) off' S1x640.size inb').toLoadRect.idx x)) (at1 sc j))
      = rowStep t ids ef sc j o := by
  have hr : idn ids j - 2048 * t < 2048 := by omega
  have e1 : (fun x => o ((Rect.unit (s := S2048x640) off S1x640.size inb).toLoadRect.idx x))
      = fun x : S1x640.Idx => o (ix2 ⟨idn ids j - 2048 * t, hr⟩ (x 1)) := funext fun x => readRow o ho hr inb x
  have e2 : (fun x => ef ((Rect.unit (s := S1024x640) off' S1x640.size inb').toLoadRect.idx x))
      = fun x : S1x640.Idx => ef (ix2 (Fin.ofNat 1024 j) (x 1)) := funext fun x => by
    rw [readRow ef ho' hj inb' x]
    congr 2
    exact Fin.ext (Nat.mod_eq_of_lt hj).symm
  refine (congrArg ((Rect.unit (s := S2048x640) off S1x640.size inb).overlay o)
    (congrArg₂ (fun a b => k0_pay3 (F := F) a b (at1 sc j)) e1 e2)).trans ?_
  subst ho
  funext y
  unfold rowStep
  by_cases hy : (y 0).val + 2048 * t = idn ids j
  · rw [if_pos hy]
    have he : (Rect.unit (s := S2048x640) ![idn ids j - 2048 * t, 0] S1x640.size inb).emb (ix2 0 (y 1)) = y := by
      funext a
      match a with
      | ⟨0, _⟩ =>
        apply Fin.ext
        show idn ids j - 2048 * t + 1 * 0 = (y 0).val
        omega
      | ⟨1, _⟩ =>
        apply Fin.ext
        show 0 + 1 * (y 1).val = (y 1).val
        omega
    have hv := Rect.overlay_emb (Rect.unit (s := S2048x640) ![idn ids j - 2048 * t, 0] S1x640.size inb) o
      (k0_pay3 (F := F) (fun x => o (ix2 ⟨idn ids j - 2048 * t, hr⟩ (x 1))) (fun x => ef (ix2 (Fin.ofNat 1024 j) (x 1))) (at1 sc j))
      (ix2 0 (y 1))
    rw [he] at hv
    rw [hv]
    have hy0 : (⟨idn ids j - 2048 * t, hr⟩ : Fin 2048) = y 0 := Fin.ext (by show idn ids j - 2048 * t = (y 0).val; omega)
    rw [hy0]
  · rw [if_neg hy]
    apply Rect.overlay_of_not_mem
    rw [Rect.mem_set_unit]
    intro hm
    have h2 := hm 0
    have h3 : idn ids j - 2048 * t ≤ (y 0).val := h2.1
    have h4 : (y 0).val < idn ids j - 2048 * t + 1 := h2.2
    omega

/-- The loop runs under a natural-number bound. -/
abbrev 𝒱 : Variants := Variants.nat

section Label

variable (c : Dev nD) (i : grid0.Coords)
  (arg1 : Memref sig .tc .smem S1024 .i32) (harg1 : arg1.IsWhole) (arg8 : Memref sig .tc .vmem S2048x640 .f32) (harg8 : arg8.IsWhole)
  (arg11 : Memref sig .tc .vmem S1024x640 .f32) (harg11 : arg11.IsWhole) (arg2 : Memref sig .tc .smem S1024 .f32) (harg2 : arg2.IsWhole)
  (ids : Vec F S1024 .i32) (ef : Vec F S1024x640 .f32) (sc : Vec F S1024 .f32)

/-- The four memrefs the loop's function reads and writes: the block at `o`, the others at their values. -/
def held (o : Vec F S2048x640 .f32) : sProp 𝕄 :=
  iprop(owns ((c : Dev nD) : Thread nD τ) arg1 fullShare ids ∗ owns ((c : Dev nD) : Thread nD τ) arg2 fullShare sc
    ∗ owns ((c : Dev nD) : Thread nD τ) arg11 fullShare ef ∗ owns ((c : Dev nD) : Thread nD τ) arg8 fullShare o)

/-- With `k` ids of the slice to go from position `j`: holding the memrefs with the block at `o`, the loop returns position
    `j + k` and the block after the `k` additions. -/
def spec (j k : ℕ) (o : Vec F S2048x640 .f32) : sWPT 𝕄 (BitVec 32) := do
  sWPT.consume (held c arg1 arg8 arg11 arg2 ids ef sc o)
  sWPT.produce (held c arg1 arg8 arg11 arg2 ids ef sc (rows (i 0).val ids ef sc j k o))
  pure (BitVec.ofNat 32 (j + k))

theorem spec_apply (j k : ℕ) (o : Vec F S2048x640 .f32) (K : BitVec 32 → sProp 𝕄) :
    spec c i arg1 arg8 arg11 arg2 ids ef sc j k o K
      = iprop(held c arg1 arg8 arg11 arg2 ids ef sc o
        ∗ (held c arg1 arg8 arg11 arg2 ids ef sc (rows (i 0).val ids ef sc j k o) -∗ K (BitVec.ofNat 32 (j + k)))) := rfl

/-- The loop's function meets the specification, by induction on how many ids of the slice are to go. -/
theorem spec_le (hg : Good ids) (E : Set ℕ) :
    ∀ k j, cnt (idn ids) (2048 * (i 0).val) ≤ j → j + k = cnt (idn ids) (2048 * ((i 0).val + 1)) → ∀ o K,
      spec c i arg1 arg8 arg11 arg2 ids ef sc j k o K
      ⊢ wp frame (wpE (defs₀ (F := F)) 𝒱 (c : Thread nD τ) (some k)) E
          (defs₀ (F := F) .tc 1 ⟨i, arg1, harg1, arg8, harg8, arg11, harg11, arg2, harg2, BitVec.ofNat 32 j⟩) K := by
  intro k
  induction k with
  | zero =>
    intro j hj0 hj o K
    have hle := cnt_le (idn ids) (2048 * ((i 0).val + 1))
    rw [spec_apply]
    show _ ⊢ wp frame (wpE (defs₀ (F := F)) 𝒱 (c : Thread nD τ) (some 0)) E
      (cc0_while1 i arg1 harg1 arg8 harg8 arg11 harg11 arg2 harg2 (BitVec.ofNat 32 j)) K
    simp only [cc0_while1_eq_skeleton]; unfold cc0_while1_skel
    simp only [smemLoad, smemLoadElt, Prog.lift, Prog.bind_op, Prog.bind_ret, Prog.pure_eq_ret]
    unfold held
    iintro ⟨⟨H1, H2, H11, H8⟩, Hk⟩
    iapply (wp_assume 𝒱 (c : Thread nD τ) (some 0) E (chk1 (j := j) (by omega)))
    iapply (wp_load_owns 𝒱 (c : Thread nD τ) (some 0) E) $$ H1; iintro H1
    have hread := fun x => read1 ids (off2_eq (j := j) (by omega)) (by omega : min j 1023 < 1024) (k0_off2_inb _ (chk1 (j := j) (by omega))) x
    have htest : ¬ (Scalar.andi (Scalar.cmpi .slt (BitVec.ofNat 32 j) 1024#32)
        (Scalar.cmpi .slt (at1 ids (min j 1023)) (Scalar.addi (Scalar.muli (BitVec.ofNat 32 (i 0).val) 2048#32) 2048#32)) = 1#1) := by
      rw [test_iff i (by omega) (hg.nonneg _)]
      rintro ⟨hlt, h⟩
      rw [show min j 1023 = j by omega] at h
      have := (lt_cnt_iff hg.sorted hlt _).mpr h
      omega
    simp only [hread]
    rw [if_neg htest]
    rw [wp_ret]; imodintro
    iapply Hk
    simp only [rows]
    isplitl [H1]; · iexact H1
    isplitl [H2]; · iexact H2
    isplitl [H11]; · iexact H11
    iexact H8
  | succ k ih =>
    intro j hj0 hj o K
    have hle := cnt_le (idn ids) (2048 * ((i 0).val + 1))
    have hjlt : j < 1024 := by omega
    have hhi : idn ids j < 2048 * ((i 0).val + 1) := (lt_cnt_iff hg.sorted hjlt _).mp (by omega)
    have hlo : 2048 * (i 0).val ≤ idn ids j := by
      by_contra h
      have := (lt_cnt_iff hg.sorted hjlt (2048 * (i 0).val)).mpr (by omega)
      omega
    rw [spec_apply]
    show _ ⊢ wp frame (wpE (defs₀ (F := F)) 𝒱 (c : Thread nD τ) (some (k + 1))) E
      (cc0_while1 i arg1 harg1 arg8 harg8 arg11 harg11 arg2 harg2 (BitVec.ofNat 32 j)) K
    simp only [cc0_while1_eq_skeleton]; unfold cc0_while1_skel
    simp only [smemLoad, smemLoadElt, Prog.lift, Prog.bind_op, Prog.bind_ret, Prog.pure_eq_ret]
    unfold held
    iintro ⟨⟨H1, H2, H11, H8⟩, Hk⟩
    iapply (wp_assume 𝒱 (c : Thread nD τ) (some (k + 1)) E (chk1 (j := j) hjlt.le))
    iapply (wp_load_owns 𝒱 (c : Thread nD τ) (some (k + 1)) E) $$ H1; iintro H1
    have hread := fun x => read1 ids (off2_eq (j := j) hjlt.le) (by omega : min j 1023 < 1024) (k0_off2_inb _ (chk1 (j := j) hjlt.le)) x
    rw [show min j 1023 = j by omega] at hread
    have htest : (Scalar.andi (Scalar.cmpi .slt (BitVec.ofNat 32 j) 1024#32)
        (Scalar.cmpi .slt (at1 ids j) (Scalar.addi (Scalar.muli (BitVec.ofNat 32 (i 0).val) 2048#32) 2048#32)) = 1#1) :=
      (test_iff i hjlt.le (hg.nonneg _)).mpr ⟨hjlt, hhi⟩
    simp only [hread]
    rw [if_pos htest]
    iapply (wp_assume 𝒱 (c : Thread nD τ) (some (k + 1)) E (chk2 hjlt))
    iapply (wp_load_owns 𝒱 (c : Thread nD τ) (some (k + 1)) E) $$ H1; iintro H1
    have hread3 := fun x => read1 ids (off3_eq (j := j) hjlt.le) hjlt (k0_off3_inb _ (chk2 hjlt)) x
    beta_reduce
    rw [hread3]
    iapply (wp_assume 𝒱 (c : Thread nD τ) (some (k + 1)) E (chk3 i (w := at1 ids j) hlo hhi))
    iapply (wp_load_owns 𝒱 (c : Thread nD τ) (some (k + 1)) E) $$ H8; iintro H8
    iapply (wp_load_owns 𝒱 (c : Thread nD τ) (some (k + 1)) E) $$ H11; iintro H11
    iapply (wp_load_owns 𝒱 (c : Thread nD τ) (some (k + 1)) E) $$ H2; iintro H2
    have hread6 := fun x => read1 sc (off6_eq (j := j) hjlt.le) hjlt (k0_off6_inb _ (chk2 hjlt)) x
    simp only [hread6]
    iapply (wp_load_owns 𝒱 (c : Thread nD τ) (some (k + 1)) E) $$ H8; iintro H8
    iapply (wp_store_owns 𝒱 (c : Thread nD τ) (some (k + 1)) E) $$ H8; iintro H8
    have hov := overlay_eq_rowStep (i 0).val ids ef sc hjlt hlo hhi o (off4_eq i hlo) (off5_eq hjlt.le)
      (k0_off4_inb i (at1 ids j) (chk3 i (w := at1 ids j) hlo hhi)) (k0_off5_inb _ (chk2 hjlt))
    erw [hov]
    rw [succ_word]
    iapply (wp_call_spec 𝒱 (c : Thread nD τ) (some (k + 1)) E
      (spec c i arg1 arg8 arg11 arg2 ids ef sc (j + 1) k (rowStep (i 0).val ids ef sc j o)) k
      (fun u hu => by cases hu; exact Nat.lt_succ_self k)
      (ih (j + 1) (by omega) (by omega) (rowStep (i 0).val ids ef sc j o)))
    rw [spec_apply]; unfold held
    isplitl [H1 H2 H11 H8]
    · isplitl [H1]; · iexact H1
      isplitl [H2]; · iexact H2
      isplitl [H11]; · iexact H11
      iexact H8
    iintro ⟨H1, H2, H11, H8⟩
    rw [wp_ret]; imodintro
    rw [show j + 1 + k = j + (k + 1) by omega]
    iapply Hk
    simp only [rows]
    isplitl [H1]; · iexact H1
    isplitl [H2]; · iexact H2
    isplitl [H11]; · iexact H11
    iexact H8

end Label

end Cert.KernelIdeal.Hand

end
-- ==== Proof.KI.Run.lean ====
/-
  The kernel's body at one grid point, run on any whole memrefs: at the first point it fills its scratch from the inputs,
  at every point it writes the four chunks of the block and walks the point's ids. `blockOf` is the block it leaves.
-/
module

public import proofs.«01_k».proof.Proof.KI.Loop

@[expose] public section

set_option maxRecDepth 16384

noncomputable section

namespace Cert.KernelIdeal.Hand

open Idealize.ShloMosaic Cert.KernelIdeal Cert.KernelIdeal.Gen Cert.Proof.Counting Cert.Proof.Own Idealize.ShloMosaic.WordCmp Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scale row point `t` reads: four points to a row. -/
def srow (t : ℕ) (dlt : Vec F S32x1024 .f32) : Vec F S1x1024 .f32 := fun x => dlt (ix2 (Fin.ofNat 32 (t / 4)) (x 1))

/-- Chunk `q` of the point's columns of `g`. -/
def gcol (g : Vec F S1024x2048 .fp8e5m2) (q : ℕ) : Vec F S1024x512 .fp8e5m2 :=
  fun x => g (ix2 (x 0) (Fin.ofNat 2048 (512 * q + (x 1).val)))

/-- The block after its four chunks are stored. -/
def chunks (t : ℕ) (hx : Vec F S640x1024 .bf16) (dlt : Vec F S32x1024 .f32) (g : Vec F S1024x2048 .fp8e5m2) :
    Vec F S2048x640 .f32 :=
  fun y => k0_pay8 (srow t dlt) hx (gcol g ((y 0).val / 512)) (ix2 (Fin.ofNat 512 (y 0).val) (y 1))

/-- The block point `t` leaves: the four chunks, then the additions of the point's ids. -/
def blockOf (t : ℕ) (ids : Vec F S1024 .i32) (sc : Vec F S1024 .f32) (ef : Vec F S1024x640 .f32) (hx : Vec F S640x1024 .bf16)
    (dlt : Vec F S32x1024 .f32) (g : Vec F S1024x2048 .fp8e5m2) : Vec F S2048x640 .f32 :=
  rows t ids ef sc (cnt (idn ids) (2048 * t)) (cnt (idn ids) (2048 * (t + 1)) - cnt (idn ids) (2048 * t)) (chunks t hx dlt g)

theorem read_srow (i : grid0.Coords) (dlt : Vec F S32x1024 .f32) :
    (fun x => dlt ((Rect.unit (s := S32x1024) (k0_off1 i) S1x1024.size (k0_off1_inb i)).toLoadRect.idx x)) = srow (i 0).val dlt := by
  funext x
  unfold srow
  congr 1
  have hi := coord_lt i
  have h0 : k0_off1 i 0 = (i 0).val / 4 := by rw [off1_eq]; rfl
  have h1 : k0_off1 i 1 = 0 := by rw [off1_eq]; rfl
  have hx : (x 0).val < 1 := (x 0).isLt
  funext a
  match a with
  | ⟨0, _⟩ =>
    apply Fin.ext
    show k0_off1 i 0 + 1 * (x 0).val = (i 0).val / 4 % 32
    omega
  | ⟨1, _⟩ =>
    apply Fin.ext
    show k0_off1 i 1 + 1 * (x 1).val = (x 1).val
    omega

theorem read_gcol (g : Vec F S1024x2048 .fp8e5m2) (q : ℕ) (hq : q < 4) {n : ℕ} (hn : n = 512 * q)
    (inb : ∀ a, (![0, n] : Fin 2 → ℕ) a + S1024x512.size a ≤ S1024x2048.size a) :
    (fun x => g ((Rect.unit (s := S1024x2048) ![0, n] S1024x512.size inb).toLoadRect.idx x)) = gcol g q := by
  subst hn
  funext x
  unfold gcol
  congr 1
  have hx : (x 1).val < 512 := (x 1).isLt
  funext a
  match a with
  | ⟨0, _⟩ =>
    apply Fin.ext
    show 0 + 1 * (x 0).val = (x 0).val
    omega
  | ⟨1, _⟩ =>
    apply Fin.ext
    show 512 * q + 1 * (x 1).val = (512 * q + (x 1).val) % 2048
    omega

/-- A chunk of rows laid over a block, at an index. -/
theorem overlay_chunk (X : Vec F S2048x640 .f32) (w : Vec F S512x640 .f32) (r : ℕ)
    (inb : ∀ a, (![r, 0] : Fin 2 → ℕ) a + S512x640.size a ≤ S2048x640.size a) (y : S2048x640.Idx) :
    (Rect.unit (s := S2048x640) ![r, 0] S512x640.size inb).overlay X w y
      = if r ≤ (y 0).val ∧ (y 0).val < r + 512 then w (ix2 (Fin.ofNat 512 ((y 0).val - r)) (y 1)) else X y := by
  by_cases hy : r ≤ (y 0).val ∧ (y 0).val < r + 512
  · rw [if_pos hy]
    have hv := Rect.overlay_emb (Rect.unit (s := S2048x640) ![r, 0] S512x640.size inb) X w (ix2 (Fin.ofNat 512 ((y 0).val - r)) (y 1))
    have he : (Rect.unit (s := S2048x640) ![r, 0] S512x640.size inb).emb (ix2 (Fin.ofNat 512 ((y 0).val - r)) (y 1)) = y := by
      funext a
      match a with
      | ⟨0, _⟩ =>
        apply Fin.ext
        show r + 1 * (((y 0).val - r) % 512) = (y 0).val
        omega
      | ⟨1, _⟩ =>
        apply Fin.ext
        show 0 + 1 * (y 1).val = (y 1).val
        omega
    exact (congrArg ((Rect.unit (s := S2048x640) ![r, 0] S512x640.size inb).overlay X w) he).symm.trans hv
  · rw [if_neg hy]
    apply Rect.overlay_of_not_mem
    rw [Rect.mem_set_unit]
    intro hm
    have h2 := hm 0
    exact hy ⟨h2.1, h2.2⟩

/-- The four chunks stored over anything are `chunks`. -/
theorem overlay_chunks (X : Vec F S2048x640 .f32) (t : ℕ) (hx : Vec F S640x1024 .bf16) (dlt : Vec F S32x1024 .f32)
    (g : Vec F S1024x2048 .fp8e5m2)
    (inb0 : ∀ a, (![0, 0] : Fin 2 → ℕ) a + S512x640.size a ≤ S2048x640.size a)
    (inb1 : ∀ a, (![512, 0] : Fin 2 → ℕ) a + S512x640.size a ≤ S2048x640.size a)
    (inb2 : ∀ a, (![1024, 0] : Fin 2 → ℕ) a + S512x640.size a ≤ S2048x640.size a)
    (inb3 : ∀ a, (![1536, 0] : Fin 2 → ℕ) a + S512x640.size a ≤ S2048x640.size a) :
    (Rect.unit (s := S2048x640) ![1536, 0] S512x640.size inb3).overlay
      ((Rect.unit (s := S2048x640) ![1024, 0] S512x640.size inb2).overlay
        ((Rect.unit (s := S2048x640) ![512, 0] S512x640.size inb1).overlay
          ((Rect.unit (s := S2048x640) ![0, 0] S512x640.size inb0).overlay X (k0_pay8 (srow t dlt) hx (gcol g 0)))
          (k0_pay9 (srow t dlt) hx (gcol g 1)))
        (k0_pay1 (k0_pay7 (srow t dlt) hx) (gcol g 2)))
      (k0_pay2 (k0_pay7 (srow t dlt) hx) (gcol g 3))
    = chunks t hx dlt g := by
  funext y
  have hy : (y 0).val < 2048 := (y 0).isLt
  have key : ∀ q, q < 4 → ∀ r, r = 512 * q → r ≤ (y 0).val → (y 0).val < r + 512 →
      chunks t hx dlt g y = k0_pay8 (srow t dlt) hx (gcol g q) (ix2 (Fin.ofNat 512 ((y 0).val - r)) (y 1)) := by
    intro q hq r hr h0 h1
    unfold chunks
    have e1 : (y 0).val / 512 = q := by omega
    have e2 : Fin.ofNat 512 (y 0).val = Fin.ofNat 512 ((y 0).val - r) := Fin.ext (by show (y 0).val % 512 = ((y 0).val - r) % 512; omega)
    rw [e1, e2]
  rw [overlay_chunk]
  by_cases h3 : 1536 ≤ (y 0).val ∧ (y 0).val < 1536 + 512
  · rw [if_pos h3, key 3 (by omega) 1536 rfl h3.1 h3.2]; rfl
  rw [if_neg h3, overlay_chunk]
  by_cases h2 : 1024 ≤ (y 0).val ∧ (y 0).val < 1024 + 512
  · rw [if_pos h2, key 2 (by omega) 1024 rfl h2.1 h2.2]; rfl
  rw [if_neg h2, overlay_chunk]
  by_cases h1 : 512 ≤ (y 0).val ∧ (y 0).val < 512 + 512
  · rw [if_pos h1, key 1 (by omega) 512 rfl h1.1 h1.2]; rfl
  rw [if_neg h1, overlay_chunk]
  rw [if_pos (by omega), key 0 (by omega) 0 rfl (by omega) (by omega)]

theorem zz2 : (![0, 0] : Fin 2 → ℕ) = fun _ => 0 := by funext a; match a with | ⟨0, _⟩ => rfl | ⟨1, _⟩ => rfl
theorem zz1 : (![0] : Fin 1 → ℕ) = fun _ => 0 := by funext a; match a with | ⟨0, _⟩ => rfl

/-- The condition of the body's first branch: the first point. -/
abbrev isFirst (i : grid0.Coords) : Prop := (Scalar.cmpi .ne (Scalar.extui (Scalar.cmpi .eq (BitVec.ofNat 32 (i 0).val) 0#32)) 0#32) = 1#1

section Body

variable (c : Dev nD) (i : grid0.Coords)
  (arg1 : Memref sig .tc .smem S1024 .i32) (harg1 : arg1.IsWhole) (arg2 : Memref sig .tc .smem S1024 .f32) (harg2 : arg2.IsWhole)
  (arg3 : Memref sig .tc .vmem S1024x32 .f32) (harg3 : arg3.IsWhole) (arg4 : Memref sig .tc .vmem S1024x640 .fp8e4m3) (harg4 : arg4.IsWhole)
  (arg5 : Memref sig .tc .vmem S1x1024 .f32) (harg5 : arg5.IsWhole) (arg6 : Memref sig .tc .vmem S1024x640 .fp8e5m2) (harg6 : arg6.IsWhole)
  (arg7 : Memref sig .tc .vmem S1024x2048 .fp8e5m2) (harg7 : arg7.IsWhole) (arg8 : Memref sig .tc .vmem S2048x640 .f32) (harg8 : arg8.IsWhole)
  (arg9 : Memref sig .tc .vmem S640x1024 .bf16) (harg9 : arg9.IsWhole) (arg10 : Memref sig .tc .vmem S32x1024 .f32) (harg10 : arg10.IsWhole)
  (arg11 : Memref sig .tc .vmem S1024x640 .f32) (harg11 : arg11.IsWhole) (arg12 : Memref sig .tc .smem S1 .i32) (harg12 : arg12.IsWhole)
  (ids : Vec F S1024 .i32) (sc : Vec F S1024 .f32) (dls : Vec F S1024x32 .f32) (x : Vec F S1024x640 .fp8e4m3) (xs : Vec F S1x1024 .f32)
  (e : Vec F S1024x640 .fp8e5m2) (g : Vec F S1024x2048 .fp8e5m2)

/-- The scratch: the scaled transposed `x`, the transposed scales, the cast table, and the position of the point's first id. -/
def scr (hx : Vec F S640x1024 .bf16) (dlt : Vec F S32x1024 .f32) (ef : Vec F S1024x640 .f32) (n : ℕ) : sProp 𝕄 :=
  iprop(owns ((c : Dev nD) : Thread nD τ) arg9 fullShare hx ∗ owns ((c : Dev nD) : Thread nD τ) arg10 fullShare dlt
    ∗ owns ((c : Dev nD) : Thread nD τ) arg11 fullShare ef
    ∗ owns ((c : Dev nD) : Thread nD τ) arg12 fullShare ((fun _ => BitVec.ofNat 32 n : S1.Idx → BitVec 32)))

/-- The inputs the body reads. -/
def ins : sProp 𝕄 :=
  iprop(owns ((c : Dev nD) : Thread nD τ) arg1 fullShare ids ∗ owns ((c : Dev nD) : Thread nD τ) arg2 fullShare sc
    ∗ owns ((c : Dev nD) : Thread nD τ) arg3 fullShare dls ∗ owns ((c : Dev nD) : Thread nD τ) arg4 fullShare x
    ∗ owns ((c : Dev nD) : Thread nD τ) arg5 fullShare xs ∗ owns ((c : Dev nD) : Thread nD τ) arg6 fullShare e
    ∗ owns ((c : Dev nD) : Thread nD τ) arg7 fullShare g)

set_option maxHeartbeats 4000000 in
/-- The body, its scratch at named values if the point is not the first and at anything if it is: it leaves the inputs as
    they were, the scratch with the position of the next point's first id, and the block at `blockOf`. -/
theorem run (hg : Good ids) (hx : Vec F S640x1024 .bf16) (dlt : Vec F S32x1024 .f32) (ef : Vec F S1024x640 .f32)
    (h1 : isFirst i → (i 0).val = 0 ∧ hx = k0_pay4 x xs ∧ dlt = k0_pay5 dls ∧ ef = k0_pay6 e)
    (E : Set ℕ) (K : PUnit → sProp 𝕄) :
    iprop(ins c arg1 arg2 arg3 arg4 arg5 arg6 arg7 ids sc dls x xs e g
      ∗ (∃ d, owns ((c : Dev nD) : Thread nD τ) arg8 fullShare d)
      ∗ (∃ hx' dlt' ef' p', (⌜¬ isFirst i → hx' = hx ∧ dlt' = dlt ∧ ef' = ef ∧ p' = ((fun _ => BitVec.ofNat 32 (cnt (idn ids) (2048 * (i 0).val))) : S1.Idx → BitVec 32)⌝
          ∗ owns ((c : Dev nD) : Thread nD τ) arg9 fullShare hx' ∗ owns ((c : Dev nD) : Thread nD τ) arg10 fullShare dlt'
          ∗ owns ((c : Dev nD) : Thread nD τ) arg11 fullShare ef' ∗ owns ((c : Dev nD) : Thread nD τ) arg12 fullShare p'))
      ∗ (iprop(ins c arg1 arg2 arg3 arg4 arg5 arg6 arg7 ids sc dls x xs e g
          ∗ owns ((c : Dev nD) : Thread nD τ) arg8 fullShare (blockOf (i 0).val ids sc ef hx dlt g)
          ∗ scr c arg9 arg10 arg11 arg12 hx dlt ef (cnt (idn ids) (2048 * ((i 0).val + 1)))) -∗ K ⟨⟩))
    ⊢ wp frame (wpE (defs₀ (F := F)) 𝒱 (c : Thread nD τ) none) E
        (cc0_tied_embedding_dw i arg1 harg1 arg2 harg2 arg3 harg3 arg4 harg4 arg5 harg5 arg6 harg6 arg7 harg7 arg8 harg8 arg9 harg9 arg10 harg10 arg11 harg11 arg12 harg12) K := by
  simp only [cc0_tied_embedding_dw_eq_skeleton]; unfold cc0_tied_embedding_dw_skel
  simp only [k0_part1_eq_skeleton]; unfold k0_part1_skel
  simp only [smemLoad, smemLoadElt, Prog.lift, Prog.bind_op, Prog.bind_ret, Prog.pure_eq_ret, bind_assoc]
  have hmono := cnt_mono (idn ids) (v := 2048 * (i 0).val) (w := 2048 * ((i 0).val + 1)) (by omega)
  unfold ins scr
  iintro ⟨⟨H1, H2, H3, H4, H5, H6, H7⟩, ⟨%d, H8⟩, ⟨%hx', %dlt', %ef', %p', %hs, H9, H10, H11, H12⟩, Hk⟩
  by_cases h0 : isFirst i
  case' pos =>
    obtain ⟨hi, e1, e2, e3⟩ := h1 h0
    rw [dif_pos h0]; simp only [Prog.bind_op, Prog.bind_ret]
    iapply (wp_load_owns 𝒱 (c : Thread nD τ) none E) $$ H4; iintro H4
    iapply (wp_load_owns 𝒱 (c : Thread nD τ) none E) $$ H5; iintro H5
    iapply (wp_load_owns 𝒱 (c : Thread nD τ) none E) $$ H9; iintro H9
    iapply (wp_store_owns 𝒱 (c : Thread nD τ) none E) $$ H9; iintro H9
    iapply (wp_load_owns 𝒱 (c : Thread nD τ) none E) $$ H3; iintro H3
    iapply (wp_load_owns 𝒱 (c : Thread nD τ) none E) $$ H10; iintro H10
    iapply (wp_store_owns 𝒱 (c : Thread nD τ) none E) $$ H10; iintro H10
    iapply (wp_load_owns 𝒱 (c : Thread nD τ) none E) $$ H6; iintro H6
    iapply (wp_load_owns 𝒱 (c : Thread nD τ) none E) $$ H11; iintro H11
    iapply (wp_store_owns 𝒱 (c : Thread nD τ) none E) $$ H11; iintro H11
    iapply (wp_load_owns 𝒱 (c : Thread nD τ) none E) $$ H12; iintro H12
    iapply (wp_store_owns 𝒱 (c : Thread nD τ) none E) $$ H12; iintro H12
    erw [overlay_full zz2, overlay_full zz2, overlay_full zz2, overlay_full zz1]
    erw [ld_full zz2, ld_full zz2, ld_full zz2, ld_full zz2]
    erw [← e1, ← e2, ← e3]
    erw [show (fun _ => 0#32 : S1.Idx → BitVec 32) = fun _ => BitVec.ofNat 32 (cnt (idn ids) (2048 * (i 0).val)) by
      rw [hi, Nat.mul_zero, cnt_zero]]
  case' neg =>
    obtain ⟨e1, e2, e3, e4⟩ := hs h0
    subst hx' dlt' ef' p'
    rw [dif_neg h0]; simp only [Prog.bind_op, Prog.bind_ret]
  all_goals
    iapply (wp_load_owns 𝒱 (c : Thread nD τ) none E) $$ H10; iintro H10
    iapply (wp_load_owns 𝒱 (c : Thread nD τ) none E) $$ H9; iintro H9
    iapply (wp_load_owns 𝒱 (c : Thread nD τ) none E) $$ H7; iintro H7
    iapply (wp_load_owns 𝒱 (c : Thread nD τ) none E) $$ H8; iintro H8
    iapply (wp_store_owns 𝒱 (c : Thread nD τ) none E) $$ H8; iintro H8
    iapply (wp_load_owns 𝒱 (c : Thread nD τ) none E) $$ H7; iintro H7
    iapply (wp_load_owns 𝒱 (c : Thread nD τ) none E) $$ H8; iintro H8
    iapply (wp_store_owns 𝒱 (c : Thread nD τ) none E) $$ H8; iintro H8
    iapply (wp_load_owns 𝒱 (c : Thread nD τ) none E) $$ H7; iintro H7
    iapply (wp_load_owns 𝒱 (c : Thread nD τ) none E) $$ H8; iintro H8
    iapply (wp_store_owns 𝒱 (c : Thread nD τ) none E) $$ H8; iintro H8
    iapply (wp_load_owns 𝒱 (c : Thread nD τ) none E) $$ H7; iintro H7
    iapply (wp_load_owns 𝒱 (c : Thread nD τ) none E) $$ H8; iintro H8
    iapply (wp_store_owns 𝒱 (c : Thread nD τ) none E) $$ H8; iintro H8
    iapply (wp_load_owns 𝒱 (c : Thread nD τ) none E) $$ H12; iintro H12
    erw [read_srow, ld_full zz2, read_gcol g 0 (by omega) rfl, read_gcol g 1 (by omega) rfl, read_gcol g 2 (by omega) rfl,
      read_gcol g 3 (by omega) rfl, overlay_chunks]
    iapply (wp_call_spec 𝒱 (c : Thread nD τ) none E
      (spec c i arg1 arg8 arg11 arg2 ids ef sc (cnt (idn ids) (2048 * (i 0).val))
        (cnt (idn ids) (2048 * ((i 0).val + 1)) - cnt (idn ids) (2048 * (i 0).val)) (chunks (i 0).val hx dlt g))
      (cnt (idn ids) (2048 * ((i 0).val + 1)) - cnt (idn ids) (2048 * (i 0).val)) (fun u hu => nomatch hu)
      (spec_le c i arg1 harg1 arg8 harg8 arg11 harg11 arg2 harg2 ids ef sc hg E
        (cnt (idn ids) (2048 * ((i 0).val + 1)) - cnt (idn ids) (2048 * (i 0).val)) (cnt (idn ids) (2048 * (i 0).val)) le_rfl
        (by omega) (chunks (i 0).val hx dlt g)))
    rw [spec_apply]; unfold held
    isplitl [H1 H2 H11 H8]
    · isplitl [H1]; · iexact H1
      isplitl [H2]; · iexact H2
      isplitl [H11]; · iexact H11
      iexact H8
    iintro ⟨H1, H2, H11, H8⟩
    iapply (wp_load_owns 𝒱 (c : Thread nD τ) none E) $$ H12; iintro H12
    iapply (wp_store_owns 𝒱 (c : Thread nD τ) none E) $$ H12; iintro H12
    rw [wp_ret]; imodintro
    erw [overlay_full zz1]
    rw [show cnt (idn ids) (2048 * (i 0).val) + (cnt (idn ids) (2048 * ((i 0).val + 1)) - cnt (idn ids) (2048 * (i 0).val))
      = cnt (idn ids) (2048 * ((i 0).val + 1)) by omega]
    iapply Hk
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [H9]; · iexact H9
    isplitl [H10]; · iexact H10
    isplitl [H11]; · iexact H11
    iexact H12

end Body

end Cert.KernelIdeal.Hand

end
-- ==== Proof.KI.Blocks.lean ====
/-
  The windows' blocks: windows 0 to 5 hold their whole array at every point, window 6 the point's columns of `g`.
-/
module

public import proofs.«01_k».proof.Proof.KI.Kit
public import proofs.«01_k».proof.Proof.KI.Run
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA
open Idealize.ShloMosaic.Pipeline (Dat Cfg Window)

variable {F : FTy → Type} [FloatOps F]

variable (m : (ℓ : Loc nD τ sig) → Buf (Elt F) ℓ)

theorem idx0 : ∀ t : Fin grid0.N, (win0 0).index t = ![0] := by decide +kernel
theorem idx1 : ∀ t : Fin grid0.N, (win0 1).index t = ![0] := by decide +kernel
theorem idx2 : ∀ t : Fin grid0.N, (win0 2).index t = ![0, 0] := by decide +kernel
theorem idx3 : ∀ t : Fin grid0.N, (win0 3).index t = ![0, 0] := by decide +kernel
theorem idx4 : ∀ t : Fin grid0.N, (win0 4).index t = ![0, 0] := by decide +kernel
theorem idx5 : ∀ t : Fin grid0.N, (win0 5).index t = ![0, 0] := by decide +kernel
theorem idx6 : ∀ t : Fin grid0.N, (win0 6).index t = ![0, t.val] := by decide +kernel
theorem idx7 : ∀ t : Fin grid0.N, (win0 7).index t = ![t.val, 0] := by decide +kernel

/-- The ids, as the region finds them. -/
abbrev idsV (c : Dev nD) : Vec F S1024 .i32 := V m c main_arg6
/-- The table's scales. -/
abbrev scV (c : Dev nD) : Vec F S1024 .f32 := V m c main_arg5
/-- The scales of `g`. -/
abbrev dlsV (c : Dev nD) : Vec F S1024x32 .f32 := V m c main_v0
/-- The tokens' rows. -/
abbrev xV (c : Dev nD) : Vec F S1024x640 .fp8e4m3 := V m c main_v1
/-- The tokens' scales. -/
abbrev xsV (c : Dev nD) : Vec F S1x1024 .f32 := V m c main_v2
/-- The table. -/
abbrev eV (c : Dev nD) : Vec F S1024x640 .fp8e5m2 := V m c main_arg4
/-- The array `g`. -/
abbrev gV (c : Dev nD) : Vec F S1024x262144 .fp8e5m2 := V m c main_v3

/-- Point `t`'s columns of `g`. -/
def gblk (g : Vec F S1024x262144 .fp8e5m2) (t : ℕ) : Vec F S1024x2048 .fp8e5m2 :=
  fun x => g (ValueIdx.ix2 (x 0) (Fin.ofNat 262144 (2048 * t + (x 1).val)))

/-- Window 0 holds its whole array at every point. -/
theorem iblk0 (c : Dev nD) (t : Fin (cfg0 (F := F)).N) : (iblk m c 0 t : Vec F S1024 .i32) = idsV m c := by
  funext (x : S1024.Idx)
  blk_simp [iblk]
  congr 1
  funext a
  match a with
  | ⟨0, _⟩ =>
    apply Fin.ext
    blk_simp
    exact (congrArg (fun n => n * 1024 + (x 0).val) (congrFun (idx0 t) 0)).trans (by show 0 * 1024 + (x 0).val = (x 0).val; omega)

/-- Window 1 holds its whole array at every point. -/
theorem iblk1 (c : Dev nD) (t : Fin (cfg0 (F := F)).N) : (iblk m c 1 t : Vec F S1024 .f32) = scV m c := by
  funext (x : S1024.Idx)
  blk_simp [iblk]
  congr 1
  funext a
  match a with
  | ⟨0, _⟩ =>
    apply Fin.ext
    blk_simp
    exact (congrArg (fun n => n * 1024 + (x 0).val) (congrFun (idx1 t) 0)).trans (by show 0 * 1024 + (x 0).val = (x 0).val; omega)

/-- Window 2 holds its whole array at every point. -/
theorem iblk2 (c : Dev nD) (t : Fin (cfg0 (F := F)).N) : (iblk m c 2 t : Vec F S1024x32 .f32) = dlsV m c := by
  funext (x : S1024x32.Idx)
  blk_simp [iblk]
  congr 1
  funext a
  match a with
  | ⟨0, _⟩ =>
    apply Fin.ext
    blk_simp
    exact (congrArg (fun n => n * 1024 + (x 0).val) (congrFun (idx2 t) 0)).trans (by show 0 * 1024 + (x 0).val = (x 0).val; omega)
  | ⟨1, _⟩ =>
    apply Fin.ext
    blk_simp
    exact (congrArg (fun n => n * 32 + (x 1).val) (congrFun (idx2 t) 1)).trans (by show 0 * 32 + (x 1).val = (x 1).val; omega)

/-- Window 3 holds its whole array at every point. -/
theorem iblk3 (c : Dev nD) (t : Fin (cfg0 (F := F)).N) : (iblk m c 3 t : Vec F S1024x640 .fp8e4m3) = xV m c := by
  funext (x : S1024x640.Idx)
  blk_simp [iblk]
  congr 1
  funext a
  match a with
  | ⟨0, _⟩ =>
    apply Fin.ext
    blk_simp
    exact (congrArg (fun n => n * 1024 + (x 0).val) (congrFun (idx3 t) 0)).trans (by show 0 * 1024 + (x 0).val = (x 0).val; omega)
  | ⟨1, _⟩ =>
    apply Fin.ext
    blk_simp
    exact (congrArg (fun n => n * 640 + (x 1).val) (congrFun (idx3 t) 1)).trans (by show 0 * 640 + (x 1).val = (x 1).val; omega)

/-- Window 4 holds its whole array at every point. -/
theorem iblk4 (c : Dev nD) (t : Fin (cfg0 (F := F)).N) : (iblk m c 4 t : Vec F S1x1024 .f32) = xsV m c := by
  funext (x : S1x1024.Idx)
  blk_simp [iblk]
  congr 1
  funext a
  match a with
  | ⟨0, _⟩ =>
    apply Fin.ext
    blk_simp
    exact congrFun (idx4 t) 0
  | ⟨1, _⟩ =>
    apply Fin.ext
    blk_simp
    exact (congrArg (fun n => n * 1024 + (x 1).val) (congrFun (idx4 t) 1)).trans (by show 0 * 1024 + (x 1).val = (x 1).val; omega)

/-- Window 5 holds its whole array at every point. -/
theorem iblk5 (c : Dev nD) (t : Fin (cfg0 (F := F)).N) : (iblk m c 5 t : Vec F S1024x640 .fp8e5m2) = eV m c := by
  funext (x : S1024x640.Idx)
  blk_simp [iblk]
  congr 1
  funext a
  match a with
  | ⟨0, _⟩ =>
    apply Fin.ext
    blk_simp
    exact (congrArg (fun n => n * 1024 + (x 0).val) (congrFun (idx5 t) 0)).trans (by show 0 * 1024 + (x 0).val = (x 0).val; omega)
  | ⟨1, _⟩ =>
    apply Fin.ext
    blk_simp
    exact (congrArg (fun n => n * 640 + (x 1).val) (congrFun (idx5 t) 1)).trans (by show 0 * 640 + (x 1).val = (x 1).val; omega)

/-- Window 6 holds the point's columns of `g`. -/
theorem iblk6 (c : Dev nD) (t : Fin (cfg0 (F := F)).N) : (iblk m c 6 t : Vec F S1024x2048 .fp8e5m2) = gblk (gV m c) t.val := by
  have ht : t.val < 128 := lt_of_lt_of_eq t.isLt N_0
  funext (x : S1024x2048.Idx)
  have hx : (x 1).val < 2048 := (x 1).isLt
  unfold gblk
  blk_simp [iblk]
  congr 1
  funext a
  match a with
  | ⟨0, _⟩ =>
    apply Fin.ext
    blk_simp
    exact (congrArg (fun n => n * 1024 + (x 0).val) (congrFun (idx6 t) 0)).trans (by show 0 * 1024 + (x 0).val = (x 0).val; omega)
  | ⟨1, _⟩ =>
    apply Fin.ext
    blk_simp
    exact (congrArg (fun n => n * 2048 + (x 1).val) (congrFun (idx6 t) 1)).trans (by
      show t.val * 2048 + (x 1).val = (2048 * t.val + (x 1).val) % 262144; omega)

end Cert.KernelIdeal.Hand

end
-- ==== Proof.KI.Frame.lean ====
/-
  The launch of the kernel: what each point leaves, the body's triple at a point, and the run of the whole program, whose
  result array holds `blockOf` of every point and whose arguments are unchanged.
-/
module

public import proofs.«01_k».proof.Proof.KI.Blocks

@[expose] public section

set_option maxRecDepth 16384

noncomputable section

namespace Cert.KernelIdeal.Hand

open Cert.KernelIdeal Cert.KernelIdeal.Gen Cert.Proof.Counting
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scaled transposed tokens. -/
def hxV (c : Dev nD) : Vec F S640x1024 .bf16 := k0_pay4 (xV m c) (xsV m c)
/-- The transposed scales of `g`. -/
def dltV (c : Dev nD) : Vec F S32x1024 .f32 := k0_pay5 (dlsV m c)
/-- The table, cast. -/
def efV (c : Dev nD) : Vec F S1024x640 .f32 := k0_pay6 (eV m c)

/-- What point `t` leaves in the output's block. -/
def outV (c : Dev nD) (t : ℕ) : Vec F S2048x640 .f32 :=
  blockOf t (idsV m c) (scV m c) (efV m c) (hxV m c) (dltV m c) (gblk (gV m c) t)

/-- The invariant before position `n`: at the start every scratch at anything; afterwards the scratch at the first point's
    values, the last the position of the first id of the points from `n` on. -/
def PhiS (c : Dev nD) : (n : ℕ) → n ≤ (cfg0 (F := F)).N → sProp 𝕄
  | 0, _ => Pipeline.ΦA spec0 c
  | n + 1, _ => iprop(scr c scM0_0 scM0_1 scM0_2 scM0_3 (hxV m c) (dltV m c) (efV m c) (cnt (idn (idsV m c)) (2048 * (n + 1)))
      ∗ (∃ r, prngReg c r))

theorem PhiS_zero (c : Dev nD) (n : ℕ) (h : n ≤ (cfg0 (F := F)).N) (hz : n = 0) : PhiS m c n h = Pipeline.ΦA spec0 c := by
  subst hz; rfl

theorem PhiS_pos (c : Dev nD) (n : ℕ) (h : n ≤ (cfg0 (F := F)).N) (hz : n ≠ 0) :
    PhiS m c n h = iprop(scr c scM0_0 scM0_1 scM0_2 scM0_3 (hxV m c) (dltV m c) (efV m c) (cnt (idn (idsV m c)) (2048 * n))
      ∗ (∃ r, prngReg c r)) := by
  cases n with
  | zero => exact absurd rfl hz
  | succ n => rfl

/-- The pipeline's proof data: the arrays as the region finds them, each input's block left in place, the output's at
    `outV`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outV m c t.val
  Φ t := PhiS m c t.val (Nat.le_of_lt_succ t.isLt)
  q _ := fullShare
  owed _ := 0

theorem A_eq (c : Dev nD) (w : Fin (cfg0 (F := F)).W) : (dats m 0 c).A w = V m c (Pipeline.arrRef spec0 w) := by
  dsimp only [dats]

theorem PhiS_castSucc (c : Dev nD) (t : Fin (cfg0 (F := F)).N) :
    (dats m 0 c).Φ t.castSucc = PhiS m c t.val (Nat.le_of_lt t.isLt) := by
  dsimp only [dats]; exact Pipeline.Dat.Φ_castSucc (PhiS m c) t

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl
theorem after0_7 (c : Dev nD) (t : Fin (cfg0 (F := F)).N) : (dats m 0 c).after 7 t = outV m c t.val := by dsimp only [dats]; rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

theorem coords0' : ∀ t : Fin grid0.N, (grid0.coords t 0).val = t.val := by decide +kernel
theorem coords0 (t : Fin (cfg0 (F := F)).N) : (grid0.coords t 0).val = t.val := coords0' t

set_option maxHeartbeats 4000000 in
/-- The body at any point. -/
theorem sound_body (c : Dev nD) (hg : Good (idsV m c)) (t : Fin (cfg0 (F := F)).N) :
    bodyPre m c t ⊢ wp frame (wpE (defs₀ (F := F)) 𝒱 c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_pos m c (t.val + 1) _ (by omega)]
  have hN : t.val < 128 := lt_of_lt_of_eq t.isLt (show (cfg0 (F := F)).N = 128 from N_0)
  have hc : (grid0.coords t 0).val = t.val := coords0 t
  have hf : isFirst (grid0.coords t) → t.val = 0 := fun h => by
    have := (hcond0_0 t).mp h
    omega
  unfold outV
  rw [iblk0, iblk1, iblk2, iblk3, iblk4, iblk5, iblk6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  have hΦ : (dats m 0 c).Φ t.castSucc ⊢ iprop((∃ hx' dlt' ef' p', (⌜¬ isFirst (grid0.coords t) → hx' = hxV m c ∧ dlt' = dltV m c ∧ ef' = efV m c
          ∧ p' = ((fun _ => BitVec.ofNat 32 (cnt (idn (idsV m c)) (2048 * (grid0.coords t 0).val))) : S1.Idx → BitVec 32)⌝
        ∗ owns ((c : Dev nD) : Thread nD τ) scM0_0 fullShare hx' ∗ owns ((c : Dev nD) : Thread nD τ) scM0_1 fullShare dlt'
        ∗ owns ((c : Dev nD) : Thread nD τ) scM0_2 fullShare ef' ∗ owns ((c : Dev nD) : Thread nD τ) scM0_3 fullShare p'))
      ∗ (∃ r, prngReg c r)) := by
    rw [PhiS_castSucc m c t]
    by_cases hz : t.val = 0
    · have h1 : isFirst (grid0.coords t) := (hcond0_0 t).mpr (by omega)
      rw [PhiS_zero m c _ _ hz, PhiA0_eq]
      iintro ⟨⟨⟨%a0, HS0⟩, ⟨%a1, HS1⟩, ⟨%a2, HS2⟩, ⟨%a3, HS3⟩⟩, Hg⟩
      isplitl [HS0 HS1 HS2 HS3]
      · iexists a0, a1, a2, a3
        isplitr; · ipureintro; exact fun h => absurd h1 h
        isplitl [HS0]; · iexact HS0
        isplitl [HS1]; · iexact HS1
        isplitl [HS2]; · iexact HS2
        iexact HS3
      iexact Hg
    · rw [PhiS_pos m c _ _ hz]
      unfold scr
      iintro ⟨⟨HS0, HS1, HS2, HS3⟩, Hg⟩
      isplitl [HS0 HS1 HS2 HS3]
      · iexists (hxV m c), (dltV m c), (efV m c), _
        isplitr
        swap
        · isplitl [HS0]; · iexact HS0
          isplitl [HS1]; · iexact HS1
          isplitl [HS2]; · iexact HS2
          iexact HS3
        ipureintro; exact fun _ => ⟨rfl, rfl, rfl, by rw [hc]⟩
      iexact Hg
  ihave HΦ' := hΦ $$ HΦ
  icases HΦ' with ⟨HS, Hg⟩
  iapply (run c (grid0.coords t) _ _ _ _ _ _ _ _ _ _ _ _ _ _ _ _ _ _ _ _ _ _ _ _ (idsV m c) (scV m c) (dlsV m c) (xV m c) (xsV m c) (eV m c)
    (gblk (gV m c) t.val) hg (hxV m c) (dltV m c) (efV m c) (fun h => ⟨hc.trans (hf h), rfl, rfl, rfl⟩) Set.univ _)
  unfold ins
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [HS]; · iexact HS
  rw [hc]
  iintro ⟨⟨H0, H1, H2, H3, H4, H5, H6⟩, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body obligation, at every point. -/
theorem body_obligation (c : Dev nD) (hg : Good (idsV m c)) :
    BodyObligation (dats (F := F) m 0 c) (defs₀ (F := F)) 𝒱 () Set.univ := fun t => by
  rw [bigSep_W0, bigSep_W0, defs₀_row]
  exact triple_restated (sound_body m c hg t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last (cfg0 (F := F)).N) ⊢ Pipeline.ΦA spec0 c := by
  have hN : (cfg0 (F := F)).N = 128 := N_0
  rw [show (dats m 0 c).Φ (Fin.last (cfg0 (F := F)).N) = PhiS m c (cfg0 (F := F)).N le_rfl from rfl, PhiS_pos m c _ _ (by omega), PhiA0_eq]
  unfold scr
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- The launch: the run ends at the pipeline's post, every semaphore counter at zero. -/
theorem run_main_quiescent (hg : ∀ c, Good (idsV m c)) : θ_run defs (onTc (τ := τ) (main (F := F))) (s₀ m ρ)
    (fun r => (Pipeline.FramePost (cfgs (F := F)) (dats m) 0 (V m)) r ∧ r.2.sem = fun _ => 0) :=
  Pipeline.θ_run_frame_track (Q' := _) cfgs (dats m) (0 : Fin 1) launch0 defs₀ 𝒱 m ρ main
    (hbody := fun c => (body_obligation m c (hg c)).loose) (hshare := fun c => (dats m 0 c).share_full fun _ => rfl)
    (howed := fun _ _ => rfl) (V := V m) (hmain := hmain m 𝒱) (hA := A_eq m) (hin := hin m) (hout := hout m)

/-- The frame: the run ends with every argument unchanged and every counter at zero. -/
theorem frame_run (hg : ∀ c, Good (idsV m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main_quiescent m ρ hg)))
    ((θ_run defs _ _).mono (fun _ h => h.2) (run_main_quiescent m ρ hg))

end Cert.KernelIdeal.Hand

end
-- ==== Proof.KI.Pre.lean ====
/-
  The precondition, read: where `ids_ok` of the arguments is 1 the ids are nonnegative and sorted.
-/
module

public import proofs.«01_k».proof.Proof.KI.Words
public import proofs.«01_k».proof.Proof.Gen.Pre_ids_ok
public import Idealize.ShloMosaic.Lib.ReduceAll
public import Idealize.ShloMosaic.Lib.Affine
public import Idealize.ShloMosaic.Lib.Pipeline.Value

@[expose] public section

set_option maxRecDepth 16384

noncomputable section

namespace Cert.KernelIdeal.Hand

open Idealize.ShloMosaic Cert.Proof.Counting

variable {F : FTy → Type} [FloatOps F]

instance : Subsingleton Cert.Pre_ids_ok.S_.Idx := ⟨fun a b => funext fun i => i.elim0⟩

/-- Where the precondition's value is 1, the ids are nonnegative and sorted. -/
theorem good_of_pre [Cert.Pre_ids_ok.Facts] (a0 : FVec F Cert.Pre_ids_ok.S2x512x262144 .fp8e5m2) (a1 : FVec F Cert.Pre_ids_ok.S2x512x32 .f32)
    (a2 : FVec F Cert.Pre_ids_ok.S2x512x640 .fp8e4m3) (a3 : FVec F Cert.Pre_ids_ok.S2x512 .f32)
    (a4 : FVec F Cert.Pre_ids_ok.S1024x640 .fp8e5m2) (a5 : FVec F Cert.Pre_ids_ok.S1024 .f32) (ids : S1024.Idx → BitVec 32)
    (h : Cert.Pre_ids_ok.fn (F := F) a0 a1 a2 a3 a4 a5 ids = fun _ => 1#1) : Good ids := by
  have h0 := congrFun h (fun i : Fin 0 => i.elim0)
  obtain ⟨hA, hB⟩ := IntOp.andi_eq_one.1 h0
  have nn : ∀ j, 0 ≤ (at1 ids j).toInt := fun j => by
    have := Host.reduce_andi_all _ _ _ _ _ hA (ValueIdx.ix1 (Fin.ofNat 1024 j))
    exact IntOp.cmpi_sge.1 this
  have hn : ∀ j, (at1 ids j).toInt = (idn ids j : ℤ) := fun j => by
    have := BitVec.toInt_eq_toNat_cond (at1 ids j)
    have := nn j
    have hlt := (at1 ids j).isLt
    unfold idn
    split at * <;> omega
  refine ⟨fun j => ?_, fun j hj => ?_⟩
  · have := @BitVec.toInt_lt 32 (at1 ids j)
    rw [hn j] at this
    have h2 : ((2 : ℤ) ^ (32 - 1)) = ((2 ^ 31 : ℕ) : ℤ) := by norm_num
    rw [h2] at this
    exact_mod_cast this
  · have := Host.reduce_andi_all _ _ _ _ _ hB (ValueIdx.ix1 (⟨j, by omega⟩ : Fin 1023))
    have h2 := IntOp.cmpi_sle.1 this
    have e0 : extractStridedSlice Cert.Pre_ids_ok.S1023 ![0] ids Cert.Pre_ids_ok.Facts.slices_S1024_S1023_0 (ValueIdx.ix1 (⟨j, by omega⟩ : Fin 1023))
        = at1 ids j := extractStridedSlice_apply _ _ _ _ _ fun a => by
      match a with
      | ⟨0, _⟩ => show j % 1024 = 0 + j; omega
    have e1 : extractStridedSlice Cert.Pre_ids_ok.S1023 ![1] ids Cert.Pre_ids_ok.Facts.slices_S1024_S1023_1 (ValueIdx.ix1 (⟨j, by omega⟩ : Fin 1023))
        = at1 ids (j + 1) := extractStridedSlice_apply _ _ _ _ _ fun a => by
      match a with
      | ⟨0, _⟩ => show (j + 1) % 1024 = 1 + j; omega
    have h3 : (at1 ids j).toInt ≤ (at1 ids (j + 1)).toInt := by rw [← e0, ← e1]; exact h2
    rw [hn, hn] at h3
    exact_mod_cast h3

end Cert.KernelIdeal.Hand

end
-- ==== Proof.Frames.lean ====
/-
  The frames: each program ends without fault, its arguments unchanged and every semaphore counter at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_ids_ok
public import proofs.«01_k».proof.Proof.K.Frame
public import proofs.«01_k».proof.Proof.K.Pre
public import proofs.«01_k».proof.Proof.KI.Frame
public import proofs.«01_k».proof.Proof.KI.Pre

@[expose] public section

noncomputable section

namespace Cert.Proof

open Idealize.ShloMosaic Idealize.SL.Sem

attribute [local instance] Cert.Kernel.Gen.facts Cert.KernelIdeal.Gen.facts Cert.ReferenceIdeal.Gen.facts Cert.Pre_ids_ok.Gen.facts

/-- Under the precondition the kernel's ids are nonnegative and sorted. -/
theorem good_K (m : (ℓ : Loc Cert.Kernel.nD Cert.Kernel.τ Cert.Kernel.sig) → Buf (Elt Bits) ℓ) (h : Pre_Kernel m) (c : Dev Cert.Kernel.nD) :
    Cert.Kernel.Hand.Good (Cert.Kernel.Hand.idsV m c) :=
  Eq.mpr (congrArg Cert.Kernel.Hand.Good (Cert.Kernel.Hand.V_main_arg6 m c)) (Cert.Kernel.Hand.good_of_pre _ _ _ _ _ _ _ (h c))

/-- The same of the ideal program. -/
theorem good_KI (m : (ℓ : Loc Cert.KernelIdeal.nD Cert.KernelIdeal.τ Cert.KernelIdeal.sig) → Buf (Elt Ideal) ℓ) (h : Pre_KernelIdeal m)
    (c : Dev Cert.KernelIdeal.nD) : Cert.KernelIdeal.Hand.Good (Cert.KernelIdeal.Hand.idsV m c) :=
  Eq.mpr (congrArg Cert.KernelIdeal.Hand.Good (Cert.KernelIdeal.Hand.V_main_arg6 m c)) (Cert.KernelIdeal.Hand.good_of_pre _ _ _ _ _ _ _ (h c))

/-- The kernel's frame. -/
theorem frame_K : quiescent_Kernel := fun m g h => Cert.Kernel.Hand.frame_run m g (good_K m h)

/-- The ideal kernel's frame. -/
theorem frame_KI : quiescent_KernelIdeal := fun m g h => Cert.KernelIdeal.Hand.frame_run m g (good_KI m h)

/-- The reference's frame. -/
theorem frame_RI : quiescent_ReferenceIdeal := fun m g _ => Cert.ReferenceIdeal.Gen.frame m g

end Cert.Proof

end
-- ==== Proof.KI.Value.lean ====
/-
  The result array after the run: row `y` holds row `y % 2048` of what point `y / 2048` leaves.
-/
module

public import proofs.«01_k».proof.Proof.KI.Frame

@[expose] public section

set_option maxRecDepth 16384

noncomputable section

namespace Cert.KernelIdeal.Hand

open Cert.KernelIdeal Cert.KernelIdeal.Gen Cert.Proof.Counting
open Idealize.ShloMosaic Idealize.ShloMosaic.TcCoe
open Idealize.SL Idealize.SL.RA Idealize.SL.Sem
open Idealize.ShloMosaic.Pipeline (Dat Cfg Window)

variable {F : FTy → Type} [FloatOps F]

variable (m : (ℓ : Loc nD τ sig) → Buf (Elt F) ℓ) (ρ : Dev nD → PrngReg)

/-- The whole result. -/
def resV (c : Dev nD) : Vec F S262144x640 .f32 :=
  fun y => outV m c ((y 0).val / 2048) (ValueIdx.ix2 (Fin.ofNat 2048 (y 0).val) (y 1))

/-- The output's blocks tile the result. -/
theorem final7 (c : Dev nD) : (dats m 0 c).arrAt 7 (cfg0 (F := F)).N = resV m c := by
  have hcov : ((cfg0 (F := F)).win 7).Covers := by
    show (win0 7).Covers
    decide +kernel
  refine (dats m 0 c).arrAt_eq_of_covers 7 _ hcov fun t hf (y : S2048x640.Idx) => ?_
  rw [after0_7]
  have h0 : (((((cfg0 (F := F)).win 7).blk t).view.emb y) (0 : Fin 2)).val = 2048 * t.val + (y 0).val := by
    blk_simp
    exact (congrArg (fun n => n * 2048 + (y 0).val) (congrFun (idx7 t) 0)).trans (by show t.val * 2048 + (y 0).val = _; omega)
  have h1 : (((((cfg0 (F := F)).win 7).blk t).view.emb y) (1 : Fin 2)).val = (y 1).val := by
    blk_simp
    exact (congrArg (fun n => n * 640 + (y 1).val) (congrFun (idx7 t) 1)).trans (by show 0 * 640 + (y 1).val = _; omega)
  have hy : (y 0).val < 2048 := (y 0).isLt
  show outV m c t.val _ = outV m c _ _
  congr 1
  · erw [h0]; omega
  · funext a
    match a with
    | ⟨0, _⟩ =>
      apply Fin.ext
      show (y 0).val = (((((cfg0 (F := F)).win 7).blk t).view.emb y) (0 : Fin 2)).val % 2048
      erw [h0]; omega
    | ⟨1, _⟩ => apply Fin.ext; exact h1.symm

/-- The run, with its result. -/
theorem value_run (hg : ∀ c, Good (idsV m c)) : θ_run defs (onTc (τ := τ) (main (F := F))) ⟨m, fun _ => 0, ρ⟩ (fun r => (∀ c : Dev nD,
      r.2.mem ((c.tc : Thread nD τ).loc main_v4) = resV m c)) :=
  (θ_run defs _ _).mono (fun _ h c => (h.1.out_eq c 7).trans (final7 m c)) (run_main_quiescent m ρ hg)

end Cert.KernelIdeal.Hand

end
-- ==== Proof.Spec.lean ====
/-
  The weight gradient of the tied embedding over the extended reals, written once: the head's product summed over the tokens,
  and the embedding rows that the ids send to a vocabulary row.
-/
module

public import Idealize.ShloMosaic.Lib.ValueIdx
public import Mathlib.Data.EReal.Operations
public import Mathlib.Algebra.BigOperators.Fin

@[expose] public section

noncomputable section

namespace Cert.Proof.Spec

open Idealize.ShloMosaic

/-- The scale chunk of a vocabulary row: 8192 rows to a chunk. -/
def chunk (v : Fin 262144) : Fin 32 := ⟨v.val / 8192, by omega⟩

/-- The head's part of row `v`, column `d`: the scaled logit gradients times the scaled activations, summed over both token axes. -/
def head (g : (⟨3, ![2, 512, 262144]⟩ : Shape).Idx → EReal) (gs : (⟨3, ![2, 512, 32]⟩ : Shape).Idx → EReal)
    (x : (⟨3, ![2, 512, 640]⟩ : Shape).Idx → EReal) (xs : (⟨2, ![2, 512]⟩ : Shape).Idx → EReal) (v : Fin 262144) (d : Fin 640) : EReal :=
  ∑ a : Fin 2, ∑ b : Fin 512, (g (ValueIdx.ix3 a b v) * gs (ValueIdx.ix3 a b (chunk v))) * (x (ValueIdx.ix3 a b d) * xs (ValueIdx.ix2 a b))

/-- The lookup's part: the scaled rows whose id is `v`, summed. -/
def emb (e : (⟨2, ![1024, 640]⟩ : Shape).Idx → EReal) (es : (⟨1, ![1024]⟩ : Shape).Idx → EReal)
    (ids : (⟨1, ![1024]⟩ : Shape).Idx → BitVec 32) (v : Fin 262144) (d : Fin 640) : EReal :=
  ∑ i : Fin 1024, if (ids (ValueIdx.ix1 i)).toInt = (v.val : ℤ) then e (ValueIdx.ix2 i d) * es (ValueIdx.ix1 i) else 0

end Cert.Proof.Spec

end
-- ==== Proof.KI.Math.lean ====
/-
  What the kernel computes over the extended reals: the same head's sum plus the same lookup's sum. The row loop's additions at
  a point are the sum over the ids of its slice, which is the sum over all ids that name the row, the ids being sorted; a
  chunk's product is the sum over the 1024 tokens, which the two token axes number.
-/
module

public import proofs.«01_k».proof.Proof.KI.Value
public import proofs.«01_k».proof.Proof.Spec
public import Idealize.ShloMosaic.PureOps.Ideal.Laws

@[expose] public section

set_option maxRecDepth 16384

noncomputable section

namespace Cert.KernelIdeal.Hand

open Cert.KernelIdeal Cert.KernelIdeal.Gen Cert.Proof Cert.Proof.Counting
open Idealize.ShloMosaic hiding ix1 ix2 ix3 ix4
open Idealize.ShloMosaic.ValueIdx Idealize.ShloMosaic.TcCoe

/-! ## The row loop -/

/-- What position `i` adds at a place of point `t`'s block. -/
def inc (t : ℕ) (ids : IVec S1024 32) (ef : FVec Ideal S1024x640 .f32) (sc : FVec Ideal S1024 .f32) (r : ℕ) (d : Fin 640) (i : ℕ) : EReal :=
  if r + 2048 * t = idn ids i then ef (ix2 (Fin.ofNat 1024 i) d) * at1 sc i else 0

/-- One position's step adds its increment. -/
theorem rowStep_apply (t : ℕ) (ids : IVec S1024 32) (ef : FVec Ideal S1024x640 .f32) (sc : FVec Ideal S1024 .f32) (j : ℕ)
    (o : FVec Ideal S2048x640 .f32) (r : Fin 2048) (d : Fin 640) :
    rowStep (F := Ideal) t ids ef sc j o (ix2 r d) = (o (ix2 r d) : EReal) + inc t ids ef sc r.val d j := by
  show (if r.val + 2048 * t = idn ids j then k0_pay3 (F := Ideal) (fun x => o (ix2 r (x 1))) (fun x => ef (ix2 (Fin.ofNat 1024 j) (x 1))) (at1 sc j) (ix2 (0 : Fin 1) d)
    else o (ix2 r d)) = _
  unfold inc
  by_cases h : r.val + 2048 * t = idn ids j
  · rw [if_pos h, if_pos h]
    unfold k0_pay3
    rw [shapeCast_self]
    rfl
  · rw [if_neg h, if_neg h, add_zero]

/-- `k` positions from `j` add the sum of their increments. -/
theorem rows_apply (t : ℕ) (ids : IVec S1024 32) (ef : FVec Ideal S1024x640 .f32) (sc : FVec Ideal S1024 .f32) (r : Fin 2048) (d : Fin 640) :
    ∀ (k j : ℕ) (o : FVec Ideal S2048x640 .f32),
      rows (F := Ideal) t ids ef sc j k o (ix2 r d) = (o (ix2 r d) : EReal) + ∑ i ∈ Finset.range k, inc t ids ef sc r.val d (j + i)
  | 0, j, o => by rw [Finset.range_zero, Finset.sum_empty, add_zero]; rfl
  | k + 1, j, o => by
    refine (rows_apply t ids ef sc r d k (j + 1) (rowStep (F := Ideal) t ids ef sc j o)).trans ?_
    rw [rowStep_apply, Finset.sum_range_succ', Nat.add_zero, add_assoc, add_comm (inc t ids ef sc r.val d j)]
    congr 2
    exact Finset.sum_congr rfl fun i _ => by rw [Nat.add_assoc, Nat.add_comm 1 i]

/-- The slice's increments at a place are those of all ids: an id outside the slice names no row of the block. -/
theorem slice_sum (t : ℕ) (ids : IVec S1024 32) (ef : FVec Ideal S1024x640 .f32) (sc : FVec Ideal S1024 .f32) (hs : Sorted (idn ids))
    (r : ℕ) (hr : r < 2048) (d : Fin 640) :
    ∑ i ∈ Finset.range (cnt (idn ids) (2048 * (t + 1)) - cnt (idn ids) (2048 * t)), inc t ids ef sc r d (cnt (idn ids) (2048 * t) + i)
      = ∑ i : Fin 1024, inc t ids ef sc r d i.val := by
  rw [← Finset.sum_Ico_eq_sum_range, ← Finset.sum_range]
  refine Finset.sum_subset (fun i hi => ?_) fun i hi hn => ?_
  · rw [Finset.mem_Ico] at hi
    rw [Finset.mem_range]
    exact hi.2.trans_le (cnt_le _ _)
  · rw [Finset.mem_range] at hi
    refine if_neg fun h => hn ?_
    rw [Finset.mem_Ico]
    have h1 := (lt_cnt_iff hs hi (2048 * t)).not
    have h2 := lt_cnt_iff hs hi (2048 * (t + 1))
    omega

/-! ## A chunk -/

/-- The product's dimension numbers. -/
abbrev DK := dot_S640x1024_S1024x512_S640x512_1_0_0_1_n_n

/-- A chunk's product, transposed, read at its row `p`, column `q`: the sum over the tokens. -/
theorem pay8_apply (s : FVec Ideal S1x1024 .f32) (hx : FVec Ideal S640x1024 .bf16) (g : FVec Ideal S1024x512 .fp8e5m2) (p : Fin 512) (q : Fin 640) :
    k0_pay8 (F := Ideal) s hx g (ix2 p q) = ∑ k : Fin 1024, ((hx (ix2 q k) * s (ix2 (0 : Fin 1) k)) * g (ix2 k p) : EReal) := by
  have hr : DK.contr.rank = 1 := rfl
  have c0 : DK.contr.size ⟨0, by rw [hr]; omega⟩ = 1024 := rfl
  unfold k0_pay8
  rw [shapeCast_self]
  refine (transpose_apply _ _ _ (ix2 p q) (ix2 q p) fun b => by
    match b with
    | ⟨0, _⟩ => rfl
    | ⟨1, _⟩ => rfl).trans ?_
  show FloatOps.matmul DK none _ _ (constant S640x512 .f32 0x00000000#32) (ix2 q p) = _
  rw [Ideal.matmul_constant_zero_apply, ← Equiv.sum_comp (contrEquiv1 DK 1024 hr c0).symm]
  refine Finset.sum_congr rfl fun k _ => ?_
  have h0 := contrEquiv1_symm_val DK 1024 hr c0 k
  have el : DK.lhsIdx (ix2 q p) ((contrEquiv1 DK 1024 hr c0).symm k) = ix2 q k := by
    funext a; apply Fin.ext
    match a with
    | ⟨0, _⟩ => rfl
    | ⟨1, _⟩ => exact h0
  have er : DK.rhsIdx (ix2 q p) ((contrEquiv1 DK 1024 hr c0).symm k) = ix2 k p := by
    funext a; apply Fin.ext
    match a with
    | ⟨0, _⟩ => exact h0
    | ⟨1, _⟩ => rfl
  rw [el, er]
  unfold k0_pay7
  have eb := broadcastTo_apply (truncf .bf16 s bitsLt_bf16_f32) broadcasts_S1x1024_S640x1024 (ix2 q k) (ix2 (0 : Fin 1) k) fun a => by
    match a with
    | ⟨0, _⟩ => rfl
    | ⟨1, _⟩ => rfl
  exact congrArg (fun z : EReal => (hx (ix2 q k) * z) * g (ix2 k p)) eb

/-- The transposed, scaled activations, read at an index. -/
theorem pay4_apply (x : FVec Ideal S1024x640 .fp8e4m3) (xs : FVec Ideal S1x1024 .f32) (q : Fin 640) (k : Fin 1024) :
    k0_pay4 (F := Ideal) x xs (ix2 q k) = (x (ix2 k q) * xs (ix2 (0 : Fin 1) k) : EReal) := by
  unfold k0_pay4
  simp only [shapeCast_self]
  have et := transpose_apply [1, 0] (extf .bf16 x bitsLt_fp8e4m3_bf16) transposes_S1024x640_p1_0_S640x1024 (ix2 q k) (ix2 k q) fun b => by
    match b with
    | ⟨0, _⟩ => rfl
    | ⟨1, _⟩ => rfl
  have eb := broadcastTo_apply (truncf .bf16 xs bitsLt_bf16_f32) broadcasts_S1x1024_S640x1024 (ix2 q k) (ix2 (0 : Fin 1) k) fun a => by
    match a with
    | ⟨0, _⟩ => rfl
    | ⟨1, _⟩ => rfl
  exact congrArg₂ (fun a b : EReal => a * b) et eb

/-- The transposed scales, read at an index. -/
theorem pay5_apply (s : FVec Ideal S1024x32 .f32) (u : Fin 32) (k : Fin 1024) :
    k0_pay5 (F := Ideal) s (ix2 u k) = s (ix2 k u) := by
  unfold k0_pay5
  simp only [shapeCast_self]
  exact transpose_apply _ _ _ (ix2 u k) (ix2 k u) fun b => by
    match b with
    | ⟨0, _⟩ => rfl
    | ⟨1, _⟩ => rfl

/-- The table, cast. -/
theorem pay6_eq (e : FVec Ideal S1024x640 .fp8e5m2) (y : S1024x640.Idx) : k0_pay6 (F := Ideal) e y = (e y : EReal) := by
  unfold k0_pay6
  simp only [shapeCast_self]
  rfl

/-! ## The reshaped arguments -/

variable (m : (ℓ : Loc nD τ sig) → Buf (Elt Ideal) ℓ)

/-- The region finds `main_v0` as argument 1, reshaped. -/
theorem V_main_v0 (c : Dev nD) : V m c main_v0 = shapeCast S1024x32 (m ((c : Thread nD τ).loc main_arg1)) shapeCasts_S2x512x32_S1024x32 := by
  show StableHlo.after _ _ (Proc.devRef .tc main_v0) = _
  simp only [hostOps0, List.flatten_cons, List.flatten_nil, List.append_nil, List.cons_append, List.nil_append]
  after_results
  rfl

/-- The region finds `main_v1` as argument 2, reshaped. -/
theorem V_main_v1 (c : Dev nD) : V m c main_v1 = shapeCast S1024x640 (m ((c : Thread nD τ).loc main_arg2)) shapeCasts_S2x512x640_S1024x640 := by
  show StableHlo.after _ _ (Proc.devRef .tc main_v1) = _
  simp only [hostOps0, List.flatten_cons, List.flatten_nil, List.append_nil, List.cons_append, List.nil_append]
  after_results
  rfl

/-- The region finds `main_v2` as argument 3, reshaped. -/
theorem V_main_v2 (c : Dev nD) : V m c main_v2 = shapeCast S1x1024 (m ((c : Thread nD τ).loc main_arg3)) shapeCasts_S2x512_S1x1024 := by
  show StableHlo.after _ _ (Proc.devRef .tc main_v2) = _
  simp only [hostOps0, List.flatten_cons, List.flatten_nil, List.append_nil, List.cons_append, List.nil_append]
  after_results
  rfl

/-- The region finds `main_v3` as argument 0, reshaped. -/
theorem V_main_v3 (c : Dev nD) :
    V m c main_v3 = shapeCast S1024x262144 (m ((c : Thread nD τ).loc main_arg0)) shapeCasts_S2x512x262144_S1024x262144 := by
  show StableHlo.after _ _ (Proc.devRef .tc main_v3) = _
  simp only [hostOps0, List.flatten_cons, List.flatten_nil, List.append_nil, List.cons_append, List.nil_append]
  after_results
  rfl

/-- Token `(a, b)`'s number. -/
def tok (a : Fin 2) (b : Fin 512) : Fin 1024 := ⟨b.val + 512 * a.val, by omega⟩

/-- The logit gradient scales of a token, read from the argument. -/
theorem dls_apply (c : Dev nD) (a : Fin 2) (b : Fin 512) (u : Fin 32) :
    dlsV m c (ix2 (tok a b) u) = m ((c : Thread nD τ).loc main_arg1) (ix3 a b u) :=
  (congrFun (V_main_v0 m c) _).trans (shapeCast_apply _ _ _ _ (by
    show (S2x512x32.rowMajor (ix3 a b u)).val = (S1024x32.rowMajor (ix2 (tok a b) u)).val
    rw [Shape.rowMajor_val_three, Shape.rowMajor_val_two]
    show (a.val * 512 + b.val) * 32 + u.val = (b.val + 512 * a.val) * 32 + u.val
    omega))

/-- The activation codes of a token, read from the argument. -/
theorem x_apply (c : Dev nD) (a : Fin 2) (b : Fin 512) (d : Fin 640) :
    xV m c (ix2 (tok a b) d) = m ((c : Thread nD τ).loc main_arg2) (ix3 a b d) :=
  (congrFun (V_main_v1 m c) _).trans (shapeCast_apply _ _ _ _ (by
    show (S2x512x640.rowMajor (ix3 a b d)).val = (S1024x640.rowMajor (ix2 (tok a b) d)).val
    rw [Shape.rowMajor_val_three, Shape.rowMajor_val_two]
    show (a.val * 512 + b.val) * 640 + d.val = (b.val + 512 * a.val) * 640 + d.val
    omega))

/-- The activation scales of a token, read from the argument. -/
theorem xs_apply (c : Dev nD) (a : Fin 2) (b : Fin 512) :
    xsV m c (ix2 (0 : Fin 1) (tok a b)) = m ((c : Thread nD τ).loc main_arg3) (ix2 a b) :=
  (congrFun (V_main_v2 m c) _).trans (shapeCast_apply _ _ _ _ (by
    show (S2x512.rowMajor (ix2 a b)).val = (S1x1024.rowMajor (ix2 (0 : Fin 1) (tok a b))).val
    rw [Shape.rowMajor_val_two, Shape.rowMajor_val_two]
    show a.val * 512 + b.val = 0 * 1024 + (b.val + 512 * a.val)
    omega))

/-- The logit gradient codes of a token, read from the argument. -/
theorem g_apply (c : Dev nD) (a : Fin 2) (b : Fin 512) (v : Fin 262144) :
    gV m c (ix2 (tok a b) v) = m ((c : Thread nD τ).loc main_arg0) (ix3 a b v) :=
  (congrFun (V_main_v3 m c) _).trans (shapeCast_apply _ _ _ _ (by
    show (S2x512x262144.rowMajor (ix3 a b v)).val = (S1024x262144.rowMajor (ix2 (tok a b) v)).val
    rw [Shape.rowMajor_val_three, Shape.rowMajor_val_two]
    show (a.val * 512 + b.val) * 262144 + v.val = (b.val + 512 * a.val) * 262144 + v.val
    omega))

/-- A sum over the tokens is the sum over both token axes. -/
theorem sum_tok (f : Fin 1024 → EReal) : ∑ k : Fin 1024, f k = ∑ a : Fin 2, ∑ b : Fin 512, f (tok a b) :=
  (Equiv.sum_comp (finProdFinEquiv (m := 2) (n := 512)) f).symm.trans (Fintype.sum_prod_type _)

/-! ## The result -/

/-- The chunks of point `v / 2048`, read at row `v`: the head's sum. -/
theorem chunks_eq (c : Dev nD) (v : Fin 262144) (d : Fin 640) :
    chunks (F := Ideal) (v.val / 2048) (hxV m c) (dltV m c) (gblk (gV m c) (v.val / 2048)) (ix2 (Fin.ofNat 2048 v.val) d)
      = Spec.head (m ((c : Thread nD τ).loc main_arg0)) (m ((c : Thread nD τ).loc main_arg1)) (m ((c : Thread nD τ).loc main_arg2))
          (m ((c : Thread nD τ).loc main_arg3)) v d := by
  have hv := v.isLt
  refine (pay8_apply _ _ _ (Fin.ofNat 512 (v.val % 2048)) d).trans ?_
  rw [sum_tok]
  unfold Spec.head
  refine Finset.sum_congr rfl fun a _ => Finset.sum_congr rfl fun b _ => ?_
  have e1 : hxV m c (ix2 d (tok a b)) = (fun p q : EReal => p * q) (m ((c : Thread nD τ).loc main_arg2) (ix3 a b d)) (m ((c : Thread nD τ).loc main_arg3) (ix2 a b)) :=
    (pay4_apply _ _ d (tok a b)).trans (congrArg₂ (fun p q : EReal => p * q) (x_apply m c a b d) (xs_apply m c a b))
  have e2 : srow (v.val / 2048) (dltV m c) (ix2 (0 : Fin 1) (tok a b)) = m ((c : Thread nD τ).loc main_arg1) (ix3 a b (Spec.chunk v)) := by
    have hu : (Fin.ofNat 32 (v.val / 2048 / 4) : Fin 32) = Spec.chunk v := Fin.ext (by show v.val / 2048 / 4 % 32 = v.val / 8192; omega)
    show dltV m c (ix2 (Fin.ofNat 32 (v.val / 2048 / 4)) (tok a b)) = _
    rw [hu]
    exact (pay5_apply _ _ _).trans (dls_apply m c a b _)
  have e3 : gcol (gblk (gV m c) (v.val / 2048)) (v.val % 2048 / 512) (ix2 (tok a b) (Fin.ofNat 512 (v.val % 2048)))
      = m ((c : Thread nD τ).loc main_arg0) (ix3 a b v) := by
    have hc : (Fin.ofNat 262144 (2048 * (v.val / 2048) + (512 * (v.val % 2048 / 512) + v.val % 2048 % 512) % 2048) : Fin 262144) = v :=
      Fin.ext (by
        show (2048 * (v.val / 2048) + (512 * (v.val % 2048 / 512) + v.val % 2048 % 512) % 2048) % 262144 = v.val
        omega)
    show gV m c (ix2 (tok a b) (Fin.ofNat 262144 (2048 * (v.val / 2048) + (512 * (v.val % 2048 / 512) + v.val % 2048 % 512) % 2048))) = _
    rw [hc]
    exact g_apply m c a b v
  refine (congrArg₂ (fun p q : EReal => p * q) (congrArg₂ (fun p q : EReal => p * q) e1 e2) e3).trans ?_
  exact (mul_assoc _ _ _).trans ((mul_comm _ _).trans (congrArg (fun p : EReal => p * _) (mul_comm _ _)))

/-- The kernel's result over the extended reals. -/
theorem res_apply (c : Dev nD) (hg : Good (idsV m c)) (v : Fin 262144) (d : Fin 640) :
    resV m c (ix2 v d) = Spec.head (m ((c : Thread nD τ).loc main_arg0)) (m ((c : Thread nD τ).loc main_arg1)) (m ((c : Thread nD τ).loc main_arg2))
          (m ((c : Thread nD τ).loc main_arg3)) v d
        + Spec.emb (m ((c : Thread nD τ).loc main_arg4)) (m ((c : Thread nD τ).loc main_arg5)) (m ((c : Thread nD τ).loc main_arg6)) v d := by
  have hv := v.isLt
  have hi : ∀ y, idsV m c y = m ((c : Thread nD τ).loc main_arg6) y := congrFun (V_main_arg6 m c)
  have hs : ∀ y, scV m c y = m ((c : Thread nD τ).loc main_arg5) y := congrFun (V_main_arg5 m c)
  have he : ∀ y, eV m c y = m ((c : Thread nD τ).loc main_arg4) y := congrFun (V_main_arg4 m c)
  refine (rows_apply (v.val / 2048) (idsV m c) (efV m c) (scV m c) (Fin.ofNat 2048 v.val) d _ _ _).trans ?_
  refine congrArg₂ (fun p q : EReal => p + q) (chunks_eq m c v d) ?_
  refine (slice_sum (v.val / 2048) (idsV m c) (efV m c) (scV m c) hg.sorted (v.val % 2048) (Nat.mod_lt _ (by decide)) d).trans ?_
  unfold Spec.emb
  refine Finset.sum_congr rfl fun i _ => ?_
  have hn := hg.nonneg i.val
  have hf : (Fin.ofNat 1024 i.val : Fin 1024) = i := Fin.ext (Nat.mod_eq_of_lt i.isLt)
  have hid : idn (idsV m c) i.val = (m ((c : Thread nD τ).loc main_arg6) (ix1 i) : BitVec 32).toNat := by
    show (idsV m c (ix1 (Fin.ofNat 1024 i.val))).toNat = _
    rw [hf, hi]
  rw [hid] at hn
  unfold inc
  rw [hid, hf]
  refine if_congr ?_ (congrArg₂ (fun p q : EReal => p * q) ((pay6_eq _ _).trans (he _)) ?_) rfl
  · rw [BitVec.toInt_eq_toNat_of_lt (by omega)]
    omega
  · show scV m c (ix1 (Fin.ofNat 1024 i.val)) = _
    rw [hf, hs]

end Cert.KernelIdeal.Hand

end
-- ==== Proof.Ref.Value.lean ====
/-
  The reference's run: the arrays its one call leaves (the codes, cast), and its result array as the host lines compute it
  from them.
-/
module

public import proofs.«01_k».proof.Proof.Gen.ReferenceIdeal.Frame
public import Idealize.ShloMosaic.Lib.Pipeline.ValueKit
public import Idealize.ShloMosaic.Lib.Pipeline.Value
public import Idealize.ShloMosaic.Lib.StableHlo.Run

@[expose] public section

set_option maxRecDepth 16384

noncomputable section

namespace Cert.ReferenceIdeal.Hand

open Cert.ReferenceIdeal Cert.ReferenceIdeal.Gen
open Idealize.ShloMosaic Idealize.ShloMosaic.TcCoe
open Idealize.SL Idealize.SL.RA Idealize.SL.Sem
open Idealize.ShloMosaic.Pipeline (Dat Cfg Window)

variable {F : FTy → Type} [FloatOps F]

variable (m : (ℓ : Loc nD τ sig) → Buf (Elt F) ℓ) (ρ : Dev nD → PrngReg)

/-- Window 0's one block is its whole array. -/
theorem emb0 (t : Fin cfg0.N) (y : S2x512x262144.Idx) : ((cfg0.win 0).blk t).view.emb y = y := by
  funext a
  match a with
  | ⟨0, _⟩ => apply Fin.ext; blk_simp; exact Nat.zero_add _
  | ⟨1, _⟩ => apply Fin.ext; blk_simp; exact Nat.zero_add _
  | ⟨2, _⟩ => apply Fin.ext; blk_simp; rw [show win0_0.index t 2 = 0 from rfl, Nat.zero_mul, Nat.zero_add]

/-- Window 1's one block is its whole array. -/
theorem emb1 (t : Fin cfg0.N) (y : S2x512x640.Idx) : ((cfg0.win 1).blk t).view.emb y = y := by
  funext a
  match a with
  | ⟨0, _⟩ => apply Fin.ext; blk_simp; exact Nat.zero_add _
  | ⟨1, _⟩ => apply Fin.ext; blk_simp; exact Nat.zero_add _
  | ⟨2, _⟩ => apply Fin.ext; blk_simp; exact Nat.zero_add _

/-- Window 2's one block is its whole array. -/
theorem emb2 (t : Fin cfg0.N) (y : S1024x640.Idx) : ((cfg0.win 2).blk t).view.emb y = y := by
  funext a
  match a with
  | ⟨0, _⟩ => apply Fin.ext; blk_simp; exact Nat.zero_add _
  | ⟨1, _⟩ => apply Fin.ext; blk_simp; exact Nat.zero_add _

/-- Window 3's one block is its whole array. -/
theorem emb3 (t : Fin cfg0.N) (y : S2x512x262144.Idx) : ((cfg0.win 3).blk t).view.emb y = y := by
  funext a
  match a with
  | ⟨0, _⟩ => apply Fin.ext; blk_simp; exact Nat.zero_add _
  | ⟨1, _⟩ => apply Fin.ext; blk_simp; exact Nat.zero_add _
  | ⟨2, _⟩ => apply Fin.ext; blk_simp; rw [show win0_3.index t 2 = 0 from rfl, Nat.zero_mul, Nat.zero_add]

/-- Window 4's one block is its whole array. -/
theorem emb4 (t : Fin cfg0.N) (y : S2x512x640.Idx) : ((cfg0.win 4).blk t).view.emb y = y := by
  funext a
  match a with
  | ⟨0, _⟩ => apply Fin.ext; blk_simp; exact Nat.zero_add _
  | ⟨1, _⟩ => apply Fin.ext; blk_simp; exact Nat.zero_add _
  | ⟨2, _⟩ => apply Fin.ext; blk_simp; exact Nat.zero_add _

/-- Window 5's one block is its whole array. -/
theorem emb5 (t : Fin cfg0.N) (y : S1024x640.Idx) : ((cfg0.win 5).blk t).view.emb y = y := by
  funext a
  match a with
  | ⟨0, _⟩ => apply Fin.ext; blk_simp; exact Nat.zero_add _
  | ⟨1, _⟩ => apply Fin.ext; blk_simp; exact Nat.zero_add _

/-- Input block 0 is argument 0. -/
theorem iblk0 (c : Dev nD) (t : Fin cfg0.N) : iblk m c 0 t = m ((c : Thread nD τ).loc main_arg0) :=
  funext fun y => congrArg (V m c main_arg0) (emb0 t y)

/-- Input block 1 is argument 2. -/
theorem iblk1 (c : Dev nD) (t : Fin cfg0.N) : iblk m c 1 t = m ((c : Thread nD τ).loc main_arg2) :=
  funext fun y => congrArg (V m c main_arg2) (emb1 t y)

/-- Input block 2 is argument 4. -/
theorem iblk2 (c : Dev nD) (t : Fin cfg0.N) : iblk m c 2 t = m ((c : Thread nD τ).loc main_arg4) :=
  funext fun y => congrArg (V m c main_arg4) (emb2 t y)

/-- What the call's body leaves in its first output. -/
theorem out3 (x0 : Vec F S2x512x262144 .fp8e5m2) (x1 : Vec F S2x512x640 .fp8e4m3) (x2 : Vec F S1024x640 .fp8e5m2) :
    out0_3 x0 x1 x2 = k0_pay1 x0 := by
  unfold out0_3
  rw [View.canon_cons_unit_lit _ _ _ (by decide), View.ld_unit_lit _ _ (by decide)]

/-- What the call's body leaves in its second output. -/
theorem out4 (x0 : Vec F S2x512x262144 .fp8e5m2) (x1 : Vec F S2x512x640 .fp8e4m3) (x2 : Vec F S1024x640 .fp8e5m2) :
    out0_4 x0 x1 x2 = k0_pay2 x1 := by
  unfold out0_4
  rw [View.canon_cons_unit_lit _ _ _ (by decide), View.ld_unit_lit _ _ (by decide)]

/-- What the call's body leaves in its third output. -/
theorem out5 (x0 : Vec F S2x512x262144 .fp8e5m2) (x1 : Vec F S2x512x640 .fp8e4m3) (x2 : Vec F S1024x640 .fp8e5m2) :
    out0_5 x0 x1 x2 = k0_pay3 x2 := by
  unfold out0_5
  rw [View.canon_cons_unit_lit _ _ _ (by decide), View.ld_unit_lit _ _ (by decide)]

/-- The call's first array: the logit gradient codes, cast. -/
theorem final3 (c : Dev nD) : (dats m 0 c).arrAt 3 cfg0.N = k0_pay1 (m ((c : Thread nD τ).loc main_arg0)) := by
  refine (dats m 0 c).arrAt_eq_of_covers 3 _ (by show (win0 3).Covers; decide +kernel) fun t hf (y : S2x512x262144.Idx) => ?_
  rw [after0_3, out3, iblk0]
  exact (congrArg (k0_pay1 (m ((c : Thread nD τ).loc main_arg0))) (emb3 t y)).symm

/-- The call's second array: the activation codes, cast. -/
theorem final4 (c : Dev nD) : (dats m 0 c).arrAt 4 cfg0.N = k0_pay2 (m ((c : Thread nD τ).loc main_arg2)) := by
  refine (dats m 0 c).arrAt_eq_of_covers 4 _ (by show (win0 4).Covers; decide +kernel) fun t hf (y : S2x512x640.Idx) => ?_
  rw [after0_4, out4, iblk1]
  exact (congrArg (k0_pay2 (m ((c : Thread nD τ).loc main_arg2))) (emb4 t y)).symm

/-- The call's third array: the embedding gradient codes, cast. -/
theorem final5 (c : Dev nD) : (dats m 0 c).arrAt 5 cfg0.N = k0_pay3 (m ((c : Thread nD τ).loc main_arg4)) := by
  refine (dats m 0 c).arrAt_eq_of_covers 5 _ (by show (win0 5).Covers; decide +kernel) fun t hf (y : S1024x640.Idx) => ?_
  rw [after0_5, out5, iblk2]
  exact (congrArg (k0_pay3 (m ((c : Thread nD τ).loc main_arg4))) (emb5 t y)).symm

/-- The reference's result array, as its host lines compute it from its call's three arrays and its arguments. -/
def tail (x0 : Vec F S2x512x262144 .bf16) (x1 : Vec F S2x512x640 .bf16) (x2 : Vec F S1024x640 .f32) (a1 : Vec F S2x512x32 .f32)
    (a3 : Vec F S2x512 .f32) (a5 : Vec F S1024 .f32) (a6 : Vec F S1024 .i32) : Vec F S262144x640 .f32 :=
  addf
    (Host.dotGeneral dot_S2x512x262144_S2x512x640_S262144x640_01_01_2_2_n_n none
      (shapeCast S2x512x262144
        (mulf (shapeCast S2x512x32x8192 x0 shapeCasts_S2x512x262144_S2x512x32x8192 : FVec F S2x512x32x8192 .bf16)
          (broadcastInDim S2x512x32x8192 ![0, 1, 2, 3] bcast_S2x512x32x1_S2x512x32x8192_0_1_2_3
            (broadcastInDim S2x512x32x1 ![0, 1, 2] bcast_S2x512x32_S2x512x32x1_0_1_2 (truncf .bf16 a1 bitsLt_bf16_f32))))
        shapeCasts_S2x512x32x8192_S2x512x262144)
      (mulf x1 (broadcastInDim S2x512x640 ![0, 1, 2] bcast_S2x512x1_S2x512x640_0_1_2
        (broadcastInDim S2x512x1 ![0, 1] bcast_S2x512_S2x512x1_0_1 (truncf .bf16 a3 bitsLt_bf16_f32)))))
    (Host.scatterAdd scatter_S262144x640_S1024x1_S1024x640_1_0_0_1
      (broadcastInDim S262144x640 ![] bcast_S_S262144x640 (constant S_ .f32 0x00000000#32))
      (broadcastInDim S1024x1 ![0] bcast_S1024_S1024x1_0 a6)
      (mulf x2 (broadcastInDim S1024x640 ![0, 1] bcast_S1024x1_S1024x640_0_1 (broadcastInDim S1024x1 ![0] bcast_S1024_S1024x1_0 a5))))

/-- The host lines after the call leave that in the result array. -/
theorem tail_eq (c : Dev nD) : Pipeline.afterTail₀ cfgs (dats m) 0 (V0 m) [hostOps1] c main_v18
    = tail ((dats m 0 c).arrAt 3 cfg0.N) ((dats m 0 c).arrAt 4 cfg0.N) ((dats m 0 c).arrAt 5 cfg0.N)
        (m ((c : Thread nD τ).loc main_arg1)) (m ((c : Thread nD τ).loc main_arg3)) (m ((c : Thread nD τ).loc main_arg5))
        (m ((c : Thread nD τ).loc main_arg6)) := by
  unfold Pipeline.afterTail₀
  simp only [hostOps1, List.flatten_cons, List.flatten_nil, List.append_nil, List.cons_append, List.nil_append]
  after_results
  have e1 : Pipeline.withArrays (cfgs 0).spec c (V0 m c) (fun w => (dats m 0 c).arrAt w (cfgs 0).N) (Proc.devRef .tc main_arg1) = m ((c : Thread nD τ).loc main_arg1) :=
    (Pipeline.withArrays_of_ne spec0 c (V0 m c) _ main_arg1 (by exact (by decide : ∀ w, Pipeline.arrRef spec0 w ≠ main_arg1))).trans (V_main_arg1 m c)
  have e3 : Pipeline.withArrays (cfgs 0).spec c (V0 m c) (fun w => (dats m 0 c).arrAt w (cfgs 0).N) (Proc.devRef .tc main_arg3) = m ((c : Thread nD τ).loc main_arg3) :=
    (Pipeline.withArrays_of_ne spec0 c (V0 m c) _ main_arg3 (by exact (by decide : ∀ w, Pipeline.arrRef spec0 w ≠ main_arg3))).trans (V_main_arg3 m c)
  have e5 : Pipeline.withArrays (cfgs 0).spec c (V0 m c) (fun w => (dats m 0 c).arrAt w (cfgs 0).N) (Proc.devRef .tc main_arg5) = m ((c : Thread nD τ).loc main_arg5) :=
    (Pipeline.withArrays_of_ne spec0 c (V0 m c) _ main_arg5 (by exact (by decide : ∀ w, Pipeline.arrRef spec0 w ≠ main_arg5))).trans (V_main_arg5 m c)
  have e6 : Pipeline.withArrays (cfgs 0).spec c (V0 m c) (fun w => (dats m 0 c).arrAt w (cfgs 0).N) (Proc.devRef .tc main_arg6) = m ((c : Thread nD τ).loc main_arg6) :=
    (Pipeline.withArrays_of_ne spec0 c (V0 m c) _ main_arg6 (by exact (by decide : ∀ w, Pipeline.arrRef spec0 w ≠ main_arg6))).trans (V_main_arg6 m c)
  have f0 : Pipeline.withArrays (cfgs 0).spec c (V0 m c) (fun w => (dats m 0 c).arrAt w (cfgs 0).N) (Proc.devRef .tc main_v0_0) = (dats m 0 c).arrAt 3 cfg0.N :=
    Pipeline.withArrays_arr spec0 launch0.win.arr_inj c (V0 m c) _ 3
  have f1 : Pipeline.withArrays (cfgs 0).spec c (V0 m c) (fun w => (dats m 0 c).arrAt w (cfgs 0).N) (Proc.devRef .tc main_v0_1) = (dats m 0 c).arrAt 4 cfg0.N :=
    Pipeline.withArrays_arr spec0 launch0.win.arr_inj c (V0 m c) _ 4
  have f2 : Pipeline.withArrays (cfgs 0).spec c (V0 m c) (fun w => (dats m 0 c).arrAt w (cfgs 0).N) (Proc.devRef .tc main_v0_2) = (dats m 0 c).arrAt 5 cfg0.N :=
    Pipeline.withArrays_arr spec0 launch0.win.arr_inj c (V0 m c) _ 5
  rw [e1, e3, e5, e6, f0, f1, f2]
  rfl

/-- The reference's result as a function of its arguments. -/
def refV (c : Dev nD) : Vec F S262144x640 .f32 :=
  tail (k0_pay1 (m ((c : Thread nD τ).loc main_arg0))) (k0_pay2 (m ((c : Thread nD τ).loc main_arg2))) (k0_pay3 (m ((c : Thread nD τ).loc main_arg4)))
    (m ((c : Thread nD τ).loc main_arg1)) (m ((c : Thread nD τ).loc main_arg3)) (m ((c : Thread nD τ).loc main_arg5)) (m ((c : Thread nD τ).loc main_arg6))

/-- The run, with its result. -/
theorem value_run : θ_run defs (onTc (τ := τ) (main (F := F))) ⟨m, fun _ => 0, ρ⟩ (fun r => ∀ c : Dev nD,
      r.2.mem ((c.tc : Thread nD τ).loc main_v18) = refV m c) :=
  (θ_run defs _ _).mono (fun _ h c => ((h c).2 main_v18 (Pipeline.mem_restRefs_of main_v18 (by decide) (by decide))).trans
    ((tail_eq m c).trans (by rw [final3, final4, final5]; rfl))) (run_main m ρ)

end Cert.ReferenceIdeal.Hand

end
-- ==== Proof.Ref.Math.lean ====
/-
  What the reference computes over the extended reals: the head's sum plus the lookup's sum.
-/
module

public import proofs.«01_k».proof.Proof.Ref.Value
public import proofs.«01_k».proof.Proof.Spec
public import Idealize.ShloMosaic.Lib.TwoAxisContraction
public import Idealize.ShloMosaic.PureOps.Ideal.Laws

@[expose] public section

set_option maxRecDepth 16384

noncomputable section

namespace Cert.ReferenceIdeal.Hand

open Cert.ReferenceIdeal Cert.ReferenceIdeal.Gen Cert.Proof
open Idealize.ShloMosaic hiding ix1 ix2 ix3 ix4
open Idealize.ShloMosaic.ValueIdx

/-- The product's dimension numbers. -/
abbrev D := dot_S2x512x262144_S2x512x640_S262144x640_01_01_2_2_n_n
/-- The scatter's dimension numbers. -/
abbrev T := scatter_S262144x640_S1024x1_S1024x640_1_0_0_1

/-- The product over both token axes, read at row `v`, column `d`. -/
theorem dot_apply (L : FVec Ideal S2x512x262144 .bf16) (R : FVec Ideal S2x512x640 .bf16) (v : Fin 262144) (d : Fin 640) :
    Host.dotGeneral D none L R (ix2 v d) = ∑ a : Fin 2, ∑ b : Fin 512, L (ix3 a b v) * R (ix3 a b d) := by
  have hr : D.contr.rank = 2 := rfl
  have c0 : D.contr.size ⟨0, by rw [hr]; omega⟩ = 2 := rfl
  have c1 : D.contr.size ⟨1, by rw [hr]; omega⟩ = 512 := rfl
  simp only [Host.dotGeneral]
  rw [Ideal.dotGeneral_apply, ← Equiv.sum_comp (contrEquiv2 D 2 512 hr c0 c1).symm, Fintype.sum_prod_type]
  refine Finset.sum_congr rfl fun a _ => Finset.sum_congr rfl fun b _ => ?_
  have h0 := contrEquiv2_symm_val0 D 2 512 hr c0 c1 (a, b)
  have h1 := contrEquiv2_symm_val1 D 2 512 hr c0 c1 (a, b)
  have el : D.lhsIdx (ix2 v d) ((contrEquiv2 D 2 512 hr c0 c1).symm (a, b)) = ix3 a b v := by
    funext k; apply Fin.ext
    match k with
    | ⟨0, _⟩ => exact h0
    | ⟨1, _⟩ => exact h1
    | ⟨2, _⟩ => rfl
  have er : D.rhsIdx (ix2 v d) ((contrEquiv2 D 2 512 hr c0 c1).symm (a, b)) = ix3 a b d := by
    funext k; apply Fin.ext
    match k with
    | ⟨0, _⟩ => exact h0
    | ⟨1, _⟩ => exact h1
    | ⟨2, _⟩ => rfl
  rw [el, er]

/-- The scaled logit gradients, read at an index. -/
theorem g_apply (x : FVec Ideal S2x512x262144 .bf16) (s : FVec Ideal S2x512x32 .bf16) (a : Fin 2) (b : Fin 512) (v : Fin 262144) :
    shapeCast S2x512x262144
        (mulf (shapeCast S2x512x32x8192 x shapeCasts_S2x512x262144_S2x512x32x8192 : FVec Ideal S2x512x32x8192 .bf16)
          (broadcastInDim S2x512x32x8192 ![0, 1, 2, 3] bcast_S2x512x32x1_S2x512x32x8192_0_1_2_3
            (broadcastInDim S2x512x32x1 ![0, 1, 2] bcast_S2x512x32_S2x512x32x1_0_1_2 s)))
        shapeCasts_S2x512x32x8192_S2x512x262144 (ix3 a b v) = x (ix3 a b v) * s (ix3 a b (Spec.chunk v)) := by
  have hv : v.val % 8192 < 8192 := Nat.mod_lt _ (by decide)
  have e1 := shapeCast_apply (mulf (shapeCast S2x512x32x8192 x shapeCasts_S2x512x262144_S2x512x32x8192 : FVec Ideal S2x512x32x8192 .bf16)
          (broadcastInDim S2x512x32x8192 ![0, 1, 2, 3] bcast_S2x512x32x1_S2x512x32x8192_0_1_2_3
            (broadcastInDim S2x512x32x1 ![0, 1, 2] bcast_S2x512x32_S2x512x32x1_0_1_2 s))) shapeCasts_S2x512x32x8192_S2x512x262144
     (ix3 a b v) (ix4 a b (Spec.chunk v) (⟨v.val % 8192, hv⟩ : Fin 8192)) (by
      rw [Shape.rowMajor_val_four, Shape.rowMajor_val_three]
      show ((a.val * 512 + b.val) * 32 + v.val / 8192) * 8192 + v.val % 8192 = (a.val * 512 + b.val) * 262144 + v.val
      omega)
  have e2 := shapeCast_apply x shapeCasts_S2x512x262144_S2x512x32x8192 (ix4 a b (Spec.chunk v) (⟨v.val % 8192, hv⟩ : Fin 8192)) (ix3 a b v) (by
      rw [Shape.rowMajor_val_four, Shape.rowMajor_val_three]
      show (a.val * 512 + b.val) * 262144 + v.val = ((a.val * 512 + b.val) * 32 + v.val / 8192) * 8192 + v.val % 8192
      omega)
  have e3 := broadcastInDim_apply ![0, 1, 2, 3] bcast_S2x512x32x1_S2x512x32x8192_0_1_2_3
    (broadcastInDim S2x512x32x1 ![0, 1, 2] bcast_S2x512x32_S2x512x32x1_0_1_2 s)
    (ix4 a b (Spec.chunk v) (⟨v.val % 8192, hv⟩ : Fin 8192)) (ix4 a b (Spec.chunk v) (0 : Fin 1)) (fun k => by
      match k with
      | ⟨0, _⟩ => rfl
      | ⟨1, _⟩ => rfl
      | ⟨2, _⟩ => rfl
      | ⟨3, _⟩ => rfl)
  have e4 := broadcastInDim_apply ![0, 1, 2] bcast_S2x512x32_S2x512x32x1_0_1_2 s
    (ix4 a b (Spec.chunk v) (0 : Fin 1)) (ix3 a b (Spec.chunk v)) (fun k => by
      match k with
      | ⟨0, _⟩ => rfl
      | ⟨1, _⟩ => rfl
      | ⟨2, _⟩ => rfl)
  rw [e1]
  exact congrArg₂ (fun p q : EReal => p * q) e2 (e3.trans e4)

/-- The scaled activations, read at an index. -/
theorem hx_apply (x : FVec Ideal S2x512x640 .bf16) (s : FVec Ideal S2x512 .bf16) (a : Fin 2) (b : Fin 512) (d : Fin 640) :
    mulf x (broadcastInDim S2x512x640 ![0, 1, 2] bcast_S2x512x1_S2x512x640_0_1_2
        (broadcastInDim S2x512x1 ![0, 1] bcast_S2x512_S2x512x1_0_1 s)) (ix3 a b d) = x (ix3 a b d) * s (ix2 a b) := by
  have e3 := broadcastInDim_apply ![0, 1, 2] bcast_S2x512x1_S2x512x640_0_1_2 (broadcastInDim S2x512x1 ![0, 1] bcast_S2x512_S2x512x1_0_1 s)
    (ix3 a b d) (ix3 a b (0 : Fin 1)) (fun k => by
      match k with
      | ⟨0, _⟩ => rfl
      | ⟨1, _⟩ => rfl
      | ⟨2, _⟩ => rfl)
  have e4 := broadcastInDim_apply ![0, 1] bcast_S2x512_S2x512x1_0_1 s (ix3 a b (0 : Fin 1)) (ix2 a b) (fun k => by
      match k with
      | ⟨0, _⟩ => rfl
      | ⟨1, _⟩ => rfl)
  exact congrArg (fun q : EReal => x (ix3 a b d) * q) (e3.trans e4)

/-- The scaled embedding rows, read at an index. -/
theorem e_apply (x : FVec Ideal S1024x640 .f32) (s : FVec Ideal S1024 .f32) (i : Fin 1024) (d : Fin 640) :
    mulf x (broadcastInDim S1024x640 ![0, 1] bcast_S1024x1_S1024x640_0_1 (broadcastInDim S1024x1 ![0] bcast_S1024_S1024x1_0 s)) (ix2 i d)
      = x (ix2 i d) * s (ix1 i) := by
  have e3 := broadcastInDim_apply ![0, 1] bcast_S1024x1_S1024x640_0_1 (broadcastInDim S1024x1 ![0] bcast_S1024_S1024x1_0 s)
    (ix2 i d) (ix2 i (0 : Fin 1)) (fun k => by
      match k with
      | ⟨0, _⟩ => rfl
      | ⟨1, _⟩ => rfl)
  have e4 := broadcastInDim_apply ![0] bcast_S1024_S1024x1_0 s (ix2 i (0 : Fin 1)) (ix1 i) (fun k => by
      match k with
      | ⟨0, _⟩ => rfl)
  exact congrArg (fun q : EReal => x (ix2 i d) * q) (e3.trans e4)

/-- The ids as the scatter reads them: one column. -/
theorem ids_apply (ids : IVec S1024 32) (i : Fin 1024) :
    broadcastInDim S1024x1 ![0] bcast_S1024_S1024x1_0 ids (ix2 i (0 : Fin 1)) = ids (ix1 i) :=
  broadcastInDim_apply ![0] bcast_S1024_S1024x1_0 ids (ix2 i (0 : Fin 1)) (ix1 i) (fun k => by
      match k with
      | ⟨0, _⟩ => rfl)

/-- Update `(i, c)` lands at `(v, d)` exactly when id `i` is `v` and `c` is `d`. -/
theorem lands (idx : IVec S1024x1 32) (i : Fin 1024) (c : Fin 640) (v : Fin 262144) (d : Fin 640) :
    T.resultIdx? (ix2 i c) idx = some (ix2 v d) ↔ (idx (ix2 i (0 : Fin 1))).toInt = (v.val : ℤ) ∧ c = d := by
  have hs : T.siIdx (ix2 i c) ⟨0, by decide⟩ = ix2 i (0 : Fin 1) := by
    funext k; apply Fin.ext
    match k with
    | ⟨0, _⟩ => rfl
    | ⟨1, _⟩ => rfl
  have s0 : T.start (ix2 i c) idx 0 = (idx (ix2 i (0 : Fin 1))).toInt := by
    show (idx (T.siIdx (ix2 i c) ⟨0, by decide⟩)).toInt = _
    rw [hs]
  have s1 : T.start (ix2 i c) idx 1 = 0 := rfl
  have w0 : T.window (ix2 i c) 0 = 0 := rfl
  have w1 : T.window (ix2 i c) 1 = c.val := rfl
  constructor
  · intro h
    unfold ScatterDims.resultIdx? at h
    split at h
    · rename_i hh
      have e := Option.some.inj h
      have q0 : (T.start (ix2 i c) idx 0 + (T.window (ix2 i c) 0 : ℕ)).toNat = v.val := congrArg Fin.val (congrFun e 0)
      have q1 : (T.start (ix2 i c) idx 1 + (T.window (ix2 i c) 1 : ℕ)).toNat = d.val := congrArg Fin.val (congrFun e 1)
      have n0 := (hh 0).1
      rw [s0, w0] at q0 n0
      rw [s1, w1] at q1
      exact ⟨by omega, Fin.ext (by omega)⟩
    · cases h
  · rintro ⟨hv, rfl⟩
    unfold ScatterDims.resultIdx?
    have hv' := v.isLt
    have hc' := c.isLt
    rw [dif_pos (fun a => by
      match a with
      | ⟨0, _⟩ =>
        show 0 ≤ T.start (ix2 i c) idx 0 + (T.window (ix2 i c) 0 : ℕ) ∧ T.start (ix2 i c) idx 0 + (T.window (ix2 i c) 0 : ℕ) < (262144 : ℕ)
        rw [s0, w0, hv]; omega
      | ⟨1, _⟩ =>
        show 0 ≤ T.start (ix2 i c) idx 1 + (T.window (ix2 i c) 1 : ℕ) ∧ T.start (ix2 i c) idx 1 + (T.window (ix2 i c) 1 : ℕ) < (640 : ℕ)
        rw [s1, w1]; omega)]
    congr 1
    funext a; apply Fin.ext
    match a with
    | ⟨0, _⟩ =>
      show (T.start (ix2 i c) idx 0 + (T.window (ix2 i c) 0 : ℕ)).toNat = v.val
      rw [s0, w0, hv]; omega
    | ⟨1, _⟩ =>
      show (T.start (ix2 i c) idx 1 + (T.window (ix2 i c) 1 : ℕ)).toNat = c.val
      rw [s1, w1]; omega

/-- The scatter into zeros, read at row `v`, column `d`: the rows whose id is `v`, summed. -/
theorem scatter_apply (u : FVec Ideal S1024x640 .f32) (ids : IVec S1024 32) (v : Fin 262144) (d : Fin 640) :
    Host.scatterAdd T (broadcastInDim S262144x640 ![] bcast_S_S262144x640 (constant (F := Ideal) S_ .f32 0x00000000#32))
      (broadcastInDim S1024x1 ![0] bcast_S1024_S1024x1_0 ids) u (ix2 v d)
      = ∑ i : Fin 1024, if (ids (ix1 i)).toInt = (v.val : ℤ) then u (ix2 i d) else 0 := by
  simp only [Host.scatterAdd, Ideal.hostScatterAdd_def]
  show Ideal.ofBits .f32 0x00000000#32 + _ = _
  rw [Ideal.ofBits_zero_f32, zero_add, Finset.sum_filter]
  rw [← Equiv.sum_comp (idxEquiv2 (n0 := 1024) (n1 := 640)).symm, Fintype.sum_prod_type]
  refine Finset.sum_congr rfl fun i _ => ?_
  have hl : ∀ c : Fin 640, (if T.resultIdx? (ix2 i c) (broadcastInDim S1024x1 ![0] bcast_S1024_S1024x1_0 ids) = some (ix2 v d) then (u (ix2 i c) : EReal) else 0)
      = if c = d then (if (ids (ix1 i)).toInt = (v.val : ℤ) then (u (ix2 i d) : EReal) else 0) else 0 := fun c => by
    by_cases hc : c = d
    · subst hc
      rw [if_pos rfl]
      exact if_congr ((lands _ i c v c).trans (by rw [ids_apply]; exact and_iff_left rfl)) rfl rfl
    · rw [if_neg hc, if_neg fun h => hc ((lands _ i c v d).mp h).2]
  refine (Finset.sum_congr rfl fun c _ => hl c).trans ?_
  rw [Finset.sum_ite_eq' Finset.univ d, if_pos (Finset.mem_univ d)]

/-- The reference's result over the extended reals. -/
theorem tail_apply (x0 : FVec Ideal S2x512x262144 .bf16) (x1 : FVec Ideal S2x512x640 .bf16) (x2 : FVec Ideal S1024x640 .f32) (a1 : FVec Ideal S2x512x32 .f32)
    (a3 : FVec Ideal S2x512 .f32) (a5 : FVec Ideal S1024 .f32) (a6 : IVec S1024 32) (v : Fin 262144) (d : Fin 640) :
    tail (F := Ideal) x0 x1 x2 a1 a3 a5 a6 (ix2 v d) = Spec.head x0 a1 x1 a3 v d + Spec.emb x2 a5 a6 v d := by
  refine congrArg₂ (fun p q : EReal => p + q) ((dot_apply _ _ v d).trans ?_) ((scatter_apply _ a6 v d).trans ?_)
  · exact Finset.sum_congr rfl fun a _ => Finset.sum_congr rfl fun b _ =>
      congrArg₂ (fun p q : EReal => p * q) (g_apply _ _ a b v) (hx_apply _ _ a b d)
  · exact Finset.sum_congr rfl fun i _ => if_congr Iff.rfl (e_apply _ _ i d) rfl

end Cert.ReferenceIdeal.Hand

end
-- ==== Proof.Algebraic.lean ====
/-
  The equation: over the extended reals the kernel and the reference, on the same arguments, end with the same result, the
  head's sum plus the lookup's sum at every row and column.
-/
module

public import proofs.«01_k».proof.Proof.Frames
public import proofs.«01_k».proof.Proof.KI.Math
public import proofs.«01_k».proof.Proof.Ref.Math

@[expose] public section

set_option maxRecDepth 16384

noncomputable section

namespace Cert.Proof

open Idealize.ShloMosaic Idealize.SL.Sem

attribute [local instance] Cert.Kernel.Gen.facts Cert.KernelIdeal.Gen.facts Cert.ReferenceIdeal.Gen.facts Cert.Pre_ids_ok.Gen.facts

/-- From the same arguments, the ids sorted and nonnegative, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hg : Cert.KernelIdeal.Hand.Good (Cert.KernelIdeal.Hand.idsV m c))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.refV m' c = Cert.KernelIdeal.Hand.resV m c := by
  funext (y : (⟨2, ![262144, 640]⟩ : Shape).Idx)
  have hy : y = ValueIdx.ix2 (y 0) (y 1) := by
    funext a
    match a with
    | ⟨0, _⟩ => rfl
    | ⟨1, _⟩ => rfl
  rw [hy]
  refine Eq.trans ?_ (Cert.KernelIdeal.Hand.res_apply m c hg (y 0) (y 1)).symm
  unfold Cert.ReferenceIdeal.Hand.refV
  rw [h0, h1, h2, h3, h4, h5, h6]
  exact Cert.ReferenceIdeal.Hand.tail_apply _ _ _ _ _ _ _ (y 0) (y 1)

/-- The algebraic claim. -/
theorem algebraic : algebraic_KernelIdeal_ReferenceIdeal := fun m g m' g' hp ha =>
  ⟨fun c => Cert.KernelIdeal.Hand.resV m c,
    (θ_run _ _ _).mono (fun _ h c => ⟨h.1 c, h.2.1 c⟩)
      (θ_run_and (Cert.KernelIdeal.Hand.value_run m g (good_KI m hp)) (Cert.KernelIdeal.Hand.frame_run m g (good_KI m hp))),
    (θ_run _ _ _).mono (fun _ h c => ⟨(h.1 c).trans (results_eq m m' c (good_KI m hp c) (ha c).1 (ha c).2.1 (ha c).2.2.1 (ha c).2.2.2.1
        (ha c).2.2.2.2.1 (ha c).2.2.2.2.2.1 (ha c).2.2.2.2.2.2), h.2 c⟩)
      (θ_run_and (Cert.ReferenceIdeal.Hand.value_run m' g') (Cert.ReferenceIdeal.Gen.unchanged m' g'))⟩

end Cert.Proof

end
-- ==== Proof.lean ====
module

public import proofs.«01_k».proof.Defs
public import proofs.«01_k».proof.Proof.Frames
public import proofs.«01_k».proof.Proof.Algebraic

@[expose] public section

noncomputable section

namespace Cert.Proof

/-- Everything the certificate claims. -/
theorem claim : Cert.Claim := ⟨Cert.Kernel.Gen.facts, Cert.KernelIdeal.Gen.facts, Cert.ReferenceIdeal.Gen.facts, Cert.Pre_ids_ok.Gen.facts,
  frame_K, frame_KI, frame_RI, fun m g _ => Cert.ReferenceIdeal.Gen.frame m g, trivial, algebraic⟩

end Cert.Proof

end
